-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v54)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x3072 : Shape := ⟨3, ![8, 4096, 3072]⟩
abbrev S8x256x3072 : Shape := ⟨3, ![8, 256, 3072]⟩
abbrev S1x64 : Shape := ⟨2, ![1, 64]⟩
abbrev S1x128 : Shape := ⟨2, ![1, 128]⟩
abbrev S_ : Shape := ⟨0, ![]⟩

class Facts : Prop where
  bcast_S_S8x4096x3072 : S_.BroadcastsInDim S8x4096x3072 (![] : Fin 0 → Fin S8x4096x3072.rank)
  bcast_S_S8x256x3072 : S_.BroadcastsInDim S8x256x3072 (![] : Fin 0 → Fin S8x256x3072.rank)
  bcast_S_S1x64 : S_.BroadcastsInDim S1x64 (![] : Fin 0 → Fin S1x64.rank)

variable [Facts]

def fn {F : FTy → Type} [FloatOps F] (main_arg0 : FVec F S8x4096x3072 .bf16) (main_arg1 : FVec F S8x256x3072 .bf16) (main_arg2 : FVec F S1x64 .f32) (main_arg3 : FVec F S1x64 .f32) (main_arg4 : FVec F S1x64 .f32) (main_arg5 : FVec F S1x64 .f32) (main_arg6 : FVec F S1x128 .f32) : IVec S8x4096x3072 1 × IVec S8x256x3072 1 × IVec S1x64 1 × IVec S1x64 1 × IVec S1x64 1 × IVec S1x64 1 :=
  let main_v0 : FVec F S8x4096x3072 .bf16 := Host.absf main_arg0
  let main_cst : FVec F S_ .bf16 := constant S_ .bf16 0x7F80#16
  let main_v1 : FVec F S8x4096x3072 .bf16 := broadcastInDim S8x4096x3072 ![] bcast_S_S8x4096x3072 main_cst
  let main_v2 : IVec S8x4096x3072 1 := cmpf .olt main_v0 main_v1
  let main_v3 : FVec F S8x256x3072 .bf16 := Host.absf main_arg1
  let main_cst_0 : FVec F S_ .bf16 := constant S_ .bf16 0x7F80#16
  let main_v4 : FVec F S8x256x3072 .bf16 := broadcastInDim S8x256x3072 ![] bcast_S_S8x256x3072 main_cst_0
  let main_v5 : IVec S8x256x3072 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  (main_v2, main_v5, main_v8, main_v11, main_v14, main_v17)
-- ==== Kernel.lean ====
abbrev S8x4096x3072 : Shape := ⟨3, ![8, 4096, 3072]⟩
abbrev S8x256x3072 : Shape := ⟨3, ![8, 256, 3072]⟩
abbrev S1x64 : Shape := ⟨2, ![1, 64]⟩
abbrev S1x128 : Shape := ⟨2, ![1, 128]⟩
abbrev S8x4096x1024 : Shape := ⟨3, ![8, 4096, 1024]⟩
abbrev S8x4096x8x128 : Shape := ⟨4, ![8, 4096, 8, 128]⟩
abbrev S8x8x128x4096 : Shape := ⟨4, ![8, 8, 128, 4096]⟩
abbrev S8x8x4096x128 : Shape := ⟨4, ![8, 8, 4096, 128]⟩
abbrev S8x256x1024 : Shape := ⟨3, ![8, 256, 1024]⟩
abbrev S8x256x8x128 : Shape := ⟨4, ![8, 256, 8, 128]⟩
abbrev S8x8x256x128 : Shape := ⟨4, ![8, 8, 256, 128]⟩
abbrev S8x8x4352x128 : Shape := ⟨4, ![8, 8, 4352, 128]⟩
abbrev S8x4352x1024 : Shape := ⟨3, ![8, 4352, 1024]⟩
abbrev S8x17x256x8x128 : Shape := ⟨5, ![8, 17, 256, 8, 128]⟩
abbrev S8x8x17x128x256 : Shape := ⟨5, ![8, 8, 17, 128, 256]⟩
abbrev S64 : Shape := ⟨1, ![64]⟩
abbrev S128 : Shape := ⟨1, ![128]⟩
abbrev S128x1 : Shape := ⟨2, ![128, 1]⟩
abbrev S1x1x128x256 : Shape := ⟨4, ![1, 1, 128, 256]⟩
abbrev S1x1x4352x128 : Shape := ⟨4, ![1, 1, 4352, 128]⟩
abbrev S1x1x17x128x256 : Shape := ⟨5, ![1, 1, 17, 128, 256]⟩
abbrev S128x512 : Shape := ⟨2, ![128, 512]⟩
abbrev S1x512 : Shape := ⟨2, ![1, 512]⟩
abbrev S128x256 : Shape := ⟨2, ![128, 256]⟩
abbrev S64x256 : Shape := ⟨2, ![64, 256]⟩
abbrev S1x1x256x128 : Shape := ⟨4, ![1, 1, 256, 128]⟩
abbrev S256x128 : Shape := ⟨2, ![256, 128]⟩
abbrev S256x512 : Shape := ⟨2, ![256, 512]⟩
abbrev S512 : Shape := ⟨1, ![512]⟩
abbrev S1x1x1x128x256 : Shape := ⟨5, ![1, 1, 1, 128, 256]⟩
abbrev S1x256 : Shape := ⟨2, ![1, 256]⟩
abbrev S256x256 : Shape := ⟨2, ![256, 256]⟩
abbrev S1 : Shape := ⟨1, ![1]⟩
abbrev S1x1 : Shape := ⟨2, ![1, 1]⟩
abbrev S256 : Shape := ⟨1, ![256]⟩

abbrev nBuf : Space → Nat
  | .hbm => 33
  | .vmem => 18
  | .smem => 0
  | _ => 0

abbrev bufTy : (tb : Table) → Fin (tcTables nBuf tb) → BufTy
  | .hbm, ⟨0, _⟩ => ⟨S8x4096x3072, .bf16⟩
  | .hbm, ⟨1, _⟩ => ⟨S8x256x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S8x4096x1024, .bf16⟩
  | .hbm, ⟨8, _⟩ => ⟨S8x4096x8x128, .bf16⟩
  | .hbm, ⟨9, _⟩ => ⟨S8x8x128x4096, .bf16⟩
  | .hbm, ⟨10, _⟩ => ⟨S8x4096x1024, .bf16⟩
  | .hbm, ⟨11, _⟩ => ⟨S8x4096x8x128, .bf16⟩
  | .hbm, ⟨12, _⟩ => ⟨S8x8x4096x128, .bf16⟩
  | .hbm, ⟨13, _⟩ => ⟨S8x256x1024, .bf16⟩
  | .hbm, ⟨14, _⟩ => ⟨S8x256x8x128, .bf16⟩
  | .hbm, ⟨15, _⟩ => ⟨S8x8x256x128, .bf16⟩
  | .hbm, ⟨16, _⟩ => ⟨S8x8x4352x128, .bf16⟩
  | .hbm, ⟨17, _⟩ => ⟨S8x4096x1024, .bf16⟩
  | .hbm, ⟨18, _⟩ => ⟨S8x256x1024, .bf16⟩
  | .hbm, ⟨19, _⟩ => ⟨S8x4352x1024, .bf16⟩
  | .hbm, ⟨20, _⟩ => ⟨S8x17x256x8x128, .bf16⟩
  | .hbm, ⟨21, _⟩ => ⟨S8x8x17x128x256, .bf16⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S128, .f32⟩
  | .hbm, ⟨31, _⟩ => ⟨S128x1, .f32⟩
  | .hbm, ⟨32, _⟩ => ⟨S8x8x128x4096, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S128x1, .f32⟩
  | .local _ .vmem, ⟨5, _⟩ => ⟨S1x1x128x256, .bf16⟩
  | .local _ .vmem, ⟨6, _⟩ => ⟨S1x1x128x256, .bf16⟩
  | .local _ .vmem, ⟨7, _⟩ => ⟨S1x1x4352x128, .bf16⟩
  | .local _ .vmem, ⟨8, _⟩ => ⟨S1x1x4352x128, .bf16⟩
  | .local _ .vmem, ⟨9, _⟩ => ⟨S1x1x17x128x256, .bf16⟩
  | .local _ .vmem, ⟨10, _⟩ => ⟨S1x1x17x128x256, .bf16⟩
  | .local _ .vmem, ⟨11, _⟩ => ⟨S1x1x128x256, .bf16⟩
  | .local _ .vmem, ⟨12, _⟩ => ⟨S1x1x128x256, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | .local _ .vmem, ⟨16, _⟩ => ⟨S128x256, .f32⟩
  | .local _ .vmem, ⟨17, _⟩ => ⟨S128x256, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 8, 16], ![false, false, false]⟩

@[reducible] def k0_t1_loop : Scf.Loop 32 :=
  let c0_i32 : BitVec 32 := 0#32
  let c17_i32 : BitVec 32 := 17#32
  let v33 : BitVec 32 := Scalar.addi c0_i32 c17_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v85 : BitVec 32 := Scalar.muli arg17 c256_i32
  v85
def k0_off1 (k0_t1 : Fin k0_t1_loop.trips) : Fin 4 → Nat :=
  let c0_49 : Index := 0#32
  let c0_50 : Index := 0#32
  let c0_i32 : BitVec 32 := 0#32
  let c1_i32 : BitVec 32 := 1#32
  let arg17 : BitVec 32 := Scf.iv c0_i32 c1_i32 k0_t1
  let c256_i32 : BitVec 32 := 256#32
  let v85 : BitVec 32 := Scalar.muli arg17 c256_i32
  let v86 : BitVec 32 := v85
  let v87 : Index := Scalar.indexCast v86
  let c0_51 : Index := 0#32
  ![0, 0, v87.toNat, 0]
def k0_off2 (k0_t1 : Fin k0_t1_loop.trips) : Fin 5 → Nat :=
  let c0_65 : Index := 0#32
  let c0_66 : Index := 0#32
  let c0_i32 : BitVec 32 := 0#32
  let c1_i32 : BitVec 32 := 1#32
  let arg17 : BitVec 32 := Scf.iv c0_i32 c1_i32 k0_t1
  let v113 : Index := Scalar.indexCast arg17
  let c0_67 : Index := 0#32
  let c0_68 : Index := 0#32
  ![0, 0, v113.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4352x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x17x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8x4096x3072 : Shape := ⟨3, ![8, 4096, 3072]⟩
abbrev S8x256x3072 : Shape := ⟨3, ![8, 256, 3072]⟩
abbrev S1x64 : Shape := ⟨2, ![1, 64]⟩
abbrev S1x128 : Shape := ⟨2, ![1, 128]⟩
abbrev S8x4096x1024 : Shape := ⟨3, ![8, 4096, 1024]⟩
abbrev S8x256x1024 : Shape := ⟨3, ![8, 256, 1024]⟩
abbrev S8x4096x8x2x64 : Shape := ⟨5, ![8, 4096, 8, 2, 64]⟩
abbrev S8x4352x1024 : Shape := ⟨3, ![8, 4352, 1024]⟩
abbrev S8x4352x8x2x64 : Shape := ⟨5, ![8, 4352, 8, 2, 64]⟩
abbrev S8x4352x8x128 : Shape := ⟨4, ![8, 4352, 8, 128]⟩
abbrev S64 : Shape := ⟨1, ![64]⟩
abbrev S_ : Shape := ⟨0, ![]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x4096x128 : Shape := ⟨4, ![8, 8, 4096, 128]⟩
abbrev S8x8x4096 : Shape := ⟨3, ![8, 8, 4096]⟩
abbrev S8x8x4096x1 : Shape := ⟨4, ![8, 8, 4096, 1]⟩
abbrev S128 : Shape := ⟨1, ![128]⟩
abbrev S1x1x1x128 : Shape := ⟨4, ![1, 1, 1, 128]⟩
abbrev S8x8x128x4096 : Shape := ⟨4, ![8, 8, 128, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x256x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S8x4096x3072, .f32⟩
  | .hbm, ⟨8, _⟩ => ⟨S8x256x3072, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x4096x8x2x64, .f32⟩
  | .hbm, ⟨16, _⟩ => ⟨S8x4352x1024, .f32⟩
  | .hbm, ⟨17, _⟩ => ⟨S8x4352x8x2x64, .f32⟩
  | .hbm, ⟨18, _⟩ => ⟨S8x4352x1024, .f32⟩
  | .hbm, ⟨19, _⟩ => ⟨S8x4352x8x128, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x8x2x4096x4352, .f32⟩
  | .hbm, ⟨36, _⟩ => ⟨S_, .f32⟩
  | .hbm, ⟨37, _⟩ => ⟨S8x8x2x4096, .f32⟩
  | .hbm, ⟨38, _⟩ => ⟨S_, .f32⟩
  | .hbm, ⟨39, _⟩ => ⟨S8x8x2x4096, .f32⟩
  | .hbm, ⟨40, _⟩ => ⟨S8x8x2x4096, .f32⟩
  | .hbm, ⟨41, _⟩ => ⟨S8x8x2x4096x1, .f32⟩
  | .hbm, ⟨42, _⟩ => ⟨S8x8x2x4096x4352, .f32⟩
  | .hbm, ⟨43, _⟩ => ⟨S8x8x2x4096x4352, .f32⟩
  | .hbm, ⟨44, _⟩ => ⟨S8x8x2x4096x4352, .f32⟩
  | .hbm, ⟨45, _⟩ => ⟨S_, .f32⟩
  | .hbm, ⟨46, _⟩ => ⟨S8x8x2x4096, .f32⟩
  | .hbm, ⟨47, _⟩ => ⟨S8x8x2x4096x1, .f32⟩
  | .hbm, ⟨48, _⟩ => ⟨S8x8x2x4096x4352, .f32⟩
  | .hbm, ⟨49, _⟩ => ⟨S8x8x2x4096x4352, .f32⟩
  | .hbm, ⟨50, _⟩ => ⟨S8x8x1x4096x4352, .f32⟩
  | .hbm, ⟨51, _⟩ => ⟨S8x8x4096x4352, .f32⟩
  | .hbm, ⟨52, _⟩ => ⟨S8x8x1x4096x4352, .f32⟩
  | .hbm, ⟨53, _⟩ => ⟨S8x8x4096x4352, .f32⟩
  | .hbm, ⟨54, _⟩ => ⟨S8x8x4096x4352, .f32⟩
  | .hbm, ⟨55, _⟩ => ⟨S8x8x4096x4352, .f32⟩
  | .hbm, ⟨56, _⟩ => ⟨S8x8x4096x4352, .f32⟩
  | .hbm, ⟨57, _⟩ => ⟨S8x8x4096x128, .f32⟩
  | .hbm, ⟨58, _⟩ => ⟨S8x8x4096x128, .f32⟩
  | .hbm, ⟨59, _⟩ => ⟨S_, .f32⟩
  | .hbm, ⟨60, _⟩ => ⟨S8x8x4096, .f32⟩
  | .hbm, ⟨61, _⟩ => ⟨S8x8x4096x1, .f32⟩
  | .hbm, ⟨62, _⟩ => ⟨S_, .f32⟩
  | .hbm, ⟨63, _⟩ => ⟨S8x8x4096x1, .f32⟩
  | .hbm, ⟨64, _⟩ => ⟨S8x8x4096x1, .f32⟩
  | .hbm, ⟨65, _⟩ => ⟨S_, .f32⟩
  | .hbm, ⟨66, _⟩ => ⟨S8x8x4096x1, .f32⟩
  | .hbm, ⟨67, _⟩ => ⟨S8x8x4096x1, .f32⟩
  | .hbm, ⟨68, _⟩ => ⟨S8x8x4096x1, .f32⟩
  | .hbm, ⟨69, _⟩ => ⟨S8x8x4096x128, .f32⟩
  | .hbm, ⟨70, _⟩ => ⟨S8x8x4096x128, .f32⟩
  | .hbm, ⟨71, _⟩ => ⟨S128, .f32⟩
  | .hbm, ⟨72, _⟩ => ⟨S1x1x1x128, .f32⟩
  | .hbm, ⟨73, _⟩ => ⟨S8x8x4096x128, .f32⟩
  | .hbm, ⟨74, _⟩ => ⟨S8x8x4096x128, .f32⟩
  | .hbm, ⟨75, _⟩ => ⟨S_, .f32⟩
  | .hbm, ⟨76, _⟩ => ⟨S8x8x4096x128, .f32⟩
  | .hbm, ⟨77, _⟩ => ⟨S8x8x4096x128, .f32⟩
  | .hbm, ⟨78, _⟩ => ⟨S8x8x128x4096, .f32⟩
  | .hbm, ⟨79, _⟩ => ⟨S8x8x128x4096, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel2.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x6x1024 : Shape := ⟨3, ![1, 6, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S9x6x1024, .f32⟩
  | .hbm, ⟨3, _⟩ => ⟨S2x1024, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S2x1024x4096, .bf16⟩
  | .hbm, ⟨11, _⟩ => ⟨S2x4096x1024, .bf16⟩
  | .hbm, ⟨12, _⟩ => ⟨S1x1024, .f32⟩
  | .hbm, ⟨13, _⟩ => ⟨S1024, .f32⟩
  | .hbm, ⟨14, _⟩ => ⟨S1x1024x4096, .bf16⟩
  | .hbm, ⟨15, _⟩ => ⟨S1024x4096, .bf16⟩
  | .hbm, ⟨16, _⟩ => ⟨S1x4096x1024, .bf16⟩
  | .hbm, ⟨17, _⟩ => ⟨S4096x1024, .bf16⟩
  | .hbm, ⟨18, _⟩ => ⟨S1x1024, .f32⟩
  | .hbm, ⟨19, _⟩ => ⟨S1x1024, .f32⟩
  | .hbm, ⟨20, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S8x1x1024 : Shape := ⟨3, ![8, 1, 1024]⟩
abbrev S8x1024 : Shape := ⟨2, ![8, 1024]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S9x6x1024, .f32⟩
  | .hbm, ⟨3, _⟩ => ⟨S2x1024, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S8x4096x1024, .f32⟩
  | .hbm, ⟨27, _⟩ => ⟨S1024x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1x1024, .f32⟩
  | .hbm, ⟨33, _⟩ => ⟨S1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S1x1024x4096, .f32⟩
  | .hbm, ⟨58, _⟩ => ⟨S1024x4096, .f32⟩
  | .hbm, ⟨59, _⟩ => ⟨S8x4096x4096, .f32⟩
  | .hbm, ⟨60, _⟩ => ⟨S_, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S1x4096x1024, .f32⟩
  | .hbm, ⟨65, _⟩ => ⟨S4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_cst : Ref sig .tc := ⟨.hbm, 60, rfl⟩
abbrev main_call0_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel3.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x512x1024 : Shape := ⟨3, ![1, 512, 1024]⟩
abbrev S1x6x1024 : Shape := ⟨3, ![1, 6, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S9x6x1024, .f32⟩
  | .hbm, ⟨3, _⟩ => ⟨S2x1024, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S1x1024, .f32⟩
  | .hbm, ⟨12, _⟩ => ⟨S1024, .f32⟩
  | .hbm, ⟨13, _⟩ => ⟨S1x1024x4096, .bf16⟩
  | .hbm, ⟨14, _⟩ => ⟨S1024x4096, .bf16⟩
  | .hbm, ⟨15, _⟩ => ⟨S1x4096x1024, .bf16⟩
  | .hbm, ⟨16, _⟩ => ⟨S4096x1024, .bf16⟩
  | .hbm, ⟨17, _⟩ => ⟨S1x1024, .f32⟩
  | .hbm, ⟨18, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S1x512x1024, .f32⟩
  | .local _ .vmem, ⟨11, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S8x1x1024 : Shape := ⟨3, ![8, 1, 1024]⟩
abbrev S8x1024 : Shape := ⟨2, ![8, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S9x6x1024, .f32⟩
  | .hbm, ⟨3, _⟩ => ⟨S2x1024, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x4096x1024, .f32⟩
  | .hbm, ⟨26, _⟩ => ⟨S1024x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1x1024, .f32⟩
  | .hbm, ⟨32, _⟩ => ⟨S1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S1x1024x4096, .f32⟩
  | .hbm, ⟨57, _⟩ => ⟨S1024x4096, .f32⟩
  | .hbm, ⟨58, _⟩ => ⟨S8x4096x4096, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S1x4096x1024, .f32⟩
  | .hbm, ⟨64, _⟩ => ⟨S4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_cst : Ref sig .tc := ⟨.hbm, 59, rfl⟩
abbrev main_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Kernel4.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x3072 : Shape := ⟨3, ![1, 1024, 3072]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S64 : Shape := ⟨1, ![64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S3072 : Shape := ⟨1, ![3072]⟩
abbrev S1024x3072 : Shape := ⟨2, ![1024, 3072]⟩
abbrev S1x3072 : Shape := ⟨2, ![1, 3072]⟩
abbrev S1x1024 : Shape := ⟨2, ![1, 1024]⟩
abbrev S1024 : Shape := ⟨1, ![1024]⟩
abbrev S8x4096x3072 : Shape := ⟨3, ![8, 4096, 3072]⟩
abbrev S1x512x1024 : Shape := ⟨3, ![1, 512, 1024]⟩
abbrev S1x6x1024 : Shape := ⟨3, ![1, 6, 1024]⟩
abbrev S512x128 : Shape := ⟨2, ![512, 128]⟩
abbrev S1x512x3072 : Shape := ⟨3, ![1, 512, 3072]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩

abbrev nBuf : Space → Nat
  | .hbm => 151
  | .vmem => 14
  | .smem => 0
  | _ => 0

abbrev hbmTy0_0 (i : Nat) : BufTy := match i % 128 with
  | 0 => ⟨S8x4096x1024, .f32⟩
  | 1 => ⟨S9x6x1024, .f32⟩
  | 2 => ⟨S2x1024, .f32⟩
  | 3 => ⟨S1x1024x3072, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S4096, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i1⟩
  | 38 => ⟨S_, .i32⟩
  | 39 => ⟨S_, .i1⟩
  | 40 => ⟨S4096, .i1⟩
  | 41 => ⟨S4096, .i1⟩
  | 42 => ⟨S4096, .i1⟩
  | 43 => ⟨S4096, .i32⟩
  | 44 => ⟨S4096, .i32⟩
  | 45 => ⟨S4096, .i32⟩
  | 46 => ⟨S4096, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x64, .f32⟩
  | 66 => ⟨S4096x64, .f32⟩
  | 67 => ⟨S4096x64, .f32⟩
  | 68 => ⟨S64, .i32⟩
  | 69 => ⟨S_, .i32⟩
  | 70 => ⟨S_, .i32⟩
  | 71 => ⟨S64, .i32⟩
  | 72 => ⟨S64, .i32⟩
  | 73 => ⟨S64, .i32⟩
  | 74 => ⟨S_, .i32⟩
  | 75 => ⟨S64, .i32⟩
  | 76 => ⟨S64, .i1⟩
  | 77 => ⟨S64, .i32⟩
  | 78 => ⟨S64, .i32⟩
  | 79 => ⟨S_, .i32⟩
  | 80 => ⟨S64, .i32⟩
  | 81 => ⟨S64, .i1⟩
  | 82 => ⟨S64, .i1⟩
  | 83 => ⟨S_, .i32⟩
  | 84 => ⟨S64, .i32⟩
  | 85 => ⟨S64, .i32⟩
  | 86 => ⟨S64, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S64, .i32⟩
  | 94 => ⟨S64, .i32⟩
  | 95 => ⟨S_, .i32⟩
  | 96 => ⟨S64, .i32⟩
  | 97 => ⟨S64, .i1⟩
  | 98 => ⟨S_, .i32⟩
  | 99 => ⟨S64, .i32⟩
  | 100 => ⟨S64, .i1⟩
  | 101 => ⟨S_, .i32⟩
  | 102 => ⟨S_, .i1⟩
  | 103 => ⟨S64, .i1⟩
  | 104 => ⟨S64, .i1⟩
  | 105 => ⟨S64, .i1⟩
  | 106 => ⟨S64, .i32⟩
  | 107 => ⟨S64, .i32⟩
  | 108 => ⟨S64, .i32⟩
  | 109 => ⟨S_, .i32⟩
  | 110 => ⟨S64, .i32⟩
  | 111 => ⟨S64, .i1⟩
  | 112 => ⟨S1x4096x1x64, .f32⟩
  | 113 => ⟨S1x4096x2x64, .f32⟩
  | 114 => ⟨S4096x128, .f32⟩
  | 115 => ⟨S4096x64, .f32⟩
  | 116 => ⟨S_, .f32⟩
  | 117 => ⟨S_, .f32⟩
  | 118 => ⟨S4096x64, .i1⟩
  | 119 => ⟨S4096x64, .f32⟩
  | 120 => ⟨S4096x64, .f32⟩
  | 121 => ⟨S1x4096x1x64, .f32⟩
  | 122 => ⟨S1x4096x2x64, .f32⟩
  | 123 => ⟨S4096x128, .f32⟩
  | 124 => ⟨S_, .f32⟩
  | 125 => ⟨S_, .f32⟩
  | 126 => ⟨S4096x64, .i1⟩
  | 127 => ⟨S4096x64, .f32⟩
  | _ => ⟨S8x4096x1024, .f32⟩

abbrev hbmTy0_1 (i : Nat) : BufTy := match i % 128 with
  | 0 => ⟨S4096x64, .f32⟩
  | 1 => ⟨S1x4096x1x64, .f32⟩
  | 2 => ⟨S1x4096x2x64, .f32⟩
  | 3 => ⟨S4096x128, .f32⟩
  | 4 => ⟨S3072, .i32⟩
  | 5 => ⟨S1024x3072, .f32⟩
  | 6 => ⟨S_, .i32⟩
  | 7 => ⟨S3072, .i32⟩
  | 8 => ⟨S3072, .i1⟩
  | 9 => ⟨S_, .f32⟩
  | 10 => ⟨S_, .f32⟩
  | 11 => ⟨S3072, .f32⟩
  | 12 => ⟨S3072, .f32⟩
  | 13 => ⟨S3072, .f32⟩
  | 14 => ⟨S3072, .f32⟩
  | 15 => ⟨S1x3072, .f32⟩
  | 16 => ⟨S1024x3072, .f32⟩
  | 17 => ⟨S1024x3072, .f32⟩
  | 18 => ⟨S1024x3072, .bf16⟩
  | 19 => ⟨S1x1024, .f32⟩
  | 20 => ⟨S1024, .f32⟩
  | 21 => ⟨S1x1024, .f32⟩
  | 22 => ⟨S8x4096x3072, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x3072, .bf16⟩
  | .local _ .vmem, ⟨13, _⟩ => ⟨S1x512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_2 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v25 : Ref sig .tc := ⟨.hbm, 86, rfl⟩
abbrev main_c_3 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_v5 : Ref sig .tc := ⟨.hbm, 96, rfl⟩
abbrev main_call3_v6 : Ref sig .tc := ⟨.hbm, 97, rfl⟩
abbrev main_call3_c_2 : Ref sig .tc := ⟨.hbm, 98, rfl⟩
abbrev main_call3_v7 : Ref sig .tc := ⟨.hbm, 99, rfl⟩
abbrev main_call3_v8 : Ref sig .tc := ⟨.hbm, 100, rfl⟩
abbrev main_call3_c_3 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_v26 : Ref sig .tc := ⟨.hbm, 108, rfl⟩
abbrev main_c_4 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_5 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_cst_6 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_c_7 : Ref sig .tc := ⟨.hbm, 134, rfl⟩
abbrev main_v43 : Ref sig .tc := ⟨.hbm, 135, rfl⟩
abbrev main_v44 : Ref sig .tc := ⟨.hbm, 136, rfl⟩
abbrev main_cst_8 : Ref sig .tc := ⟨.hbm, 137, rfl⟩
abbrev main_cst_9 : Ref sig .tc := ⟨.hbm, 138, rfl⟩
abbrev main_call6_v0 : Ref sig .tc := ⟨.hbm, 139, rfl⟩
abbrev main_call6_v1 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S9x6x1024 : Shape := ⟨3, ![9, 6, 1024]⟩
abbrev S2x1024 : Shape := ⟨2, ![2, 1024]⟩
abbrev S1x1024x3072 : Shape := ⟨3, ![1, 1024, 3072]⟩
abbrev S8x1x1024 : Shape := ⟨3, ![8, 1, 1024]⟩
abbrev S8x1024 : Shape := ⟨2, ![8, 1024]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x3072 : Shape := ⟨2, ![1024, 3072]⟩
abbrev S8x4096x3072 : Shape := ⟨3, ![8, 4096, 3072]⟩
abbrev S8x4096x16x64 : Shape := ⟨4, ![8, 4096, 16, 64]⟩
abbrev S8x4096x16x2x2x16 : Shape := ⟨6, ![8, 4096, 16, 2, 2, 16]⟩
abbrev S8x4096x16x2x1x16 : Shape := ⟨6, ![8, 4096, 16, 2, 1, 16]⟩
abbrev S8x4096x16x2x16 : Shape := ⟨5, ![8, 4096, 16, 2, 16]⟩
abbrev S4096x1x64 : Shape := ⟨3, ![4096, 1, 64]⟩
abbrev S1x4096x1x64 : Shape := ⟨4, ![1, 4096, 1, 64]⟩

abbrev nBuf : Space → Nat
  | .hbm => 163
  | .vmem => 0
  | .smem => 0
  | _ => 0

abbrev hbmTy0_0 (i : Nat) : BufTy := match i % 128 with
  | 0 => ⟨S8x4096x1024, .f32⟩
  | 1 => ⟨S9x6x1024, .f32⟩
  | 2 => ⟨S2x1024, .f32⟩
  | 3 => ⟨S1x1024x3072, .f32⟩
  | 4 => ⟨S8x1x1024, .f32⟩
  | 5 => ⟨S8x1024, .f32⟩
  | 6 => ⟨S8x1x1024, .f32⟩
  | 7 => ⟨S8x1x1024, .f32⟩
  | 8 => ⟨S8x1024, .f32⟩
  | 9 => ⟨S8x1x1024, .f32⟩
  | 10 => ⟨S8x1x1024, .f32⟩
  | 11 => ⟨S8x1024, .f32⟩
  | 12 => ⟨S8x1x1024, .f32⟩
  | 13 => ⟨S8x1x1024, .f32⟩
  | 14 => ⟨S8x1024, .f32⟩
  | 15 => ⟨S8x1x1024, .f32⟩
  | 16 => ⟨S8x1x1024, .f32⟩
  | 17 => ⟨S8x1024, .f32⟩
  | 18 => ⟨S8x1x1024, .f32⟩
  | 19 => ⟨S8x1x1024, .f32⟩
  | 20 => ⟨S8x1024, .f32⟩
  | 21 => ⟨S8x1x1024, .f32⟩
  | 22 => ⟨S4096, .i32⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i32⟩
  | 32 => ⟨S4096, .i32⟩
  | 33 => ⟨S_, .i32⟩
  | 34 => ⟨S4096, .i32⟩
  | 35 => ⟨S4096, .i1⟩
  | 36 => ⟨S4096, .i1⟩
  | 37 => ⟨S_, .i32⟩
  | 38 => ⟨S4096, .i32⟩
  | 39 => ⟨S4096, .i32⟩
  | 40 => ⟨S4096, .i32⟩
  | 41 => ⟨S4096, .f32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i1⟩
  | 56 => ⟨S_, .i32⟩
  | 57 => ⟨S_, .i1⟩
  | 58 => ⟨S4096, .i1⟩
  | 59 => ⟨S4096, .i1⟩
  | 60 => ⟨S4096, .i1⟩
  | 61 => ⟨S4096, .i32⟩
  | 62 => ⟨S4096, .i32⟩
  | 63 => ⟨S4096, .i32⟩
  | 64 => ⟨S4096, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S4096x1, .f32⟩
  | 79 => ⟨S1x16, .f32⟩
  | 80 => ⟨S4096x16, .f32⟩
  | 81 => ⟨S4096x16, .f32⟩
  | 82 => ⟨S4096x16, .f32⟩
  | 83 => ⟨S4096x64, .f32⟩
  | 84 => ⟨S4096x64, .f32⟩
  | 85 => ⟨S4096x64, .f32⟩
  | 86 => ⟨S1x1024, .f32⟩
  | 87 => ⟨S1024, .f32⟩
  | 88 => ⟨S8x4096x1024, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S_, .f32⟩
  | 96 => ⟨S8x4096x1, .f32⟩
  | 97 => ⟨S8x4096x1, .f32⟩
  | 98 => ⟨S8x4096x1, .f32⟩
  | 99 => ⟨S8x4096x1024, .f32⟩
  | 100 => ⟨S8x4096x1024, .f32⟩
  | 101 => ⟨S1x1x1024, .f32⟩
  | 102 => ⟨S8x4096x1024, .f32⟩
  | 103 => ⟨S8x4096x1024, .f32⟩
  | 104 => ⟨S_, .f32⟩
  | 105 => ⟨S8x1x1024, .f32⟩
  | 106 => ⟨S8x1x1024, .f32⟩
  | 107 => ⟨S8x4096x1024, .f32⟩
  | 108 => ⟨S8x4096x1024, .f32⟩
  | 109 => ⟨S8x4096x1024, .f32⟩
  | 110 => ⟨S8x4096x1024, .f32⟩
  | 111 => ⟨S1024x3072, .f32⟩
  | 112 => ⟨S8x4096x3072, .f32⟩
  | 113 => ⟨S8x4096x1024, .f32⟩
  | 114 => ⟨S8x4096x1024, .f32⟩
  | 115 => ⟨S8x4096x1024, .f32⟩
  | 116 => ⟨S8x4096x16x64, .f32⟩
  | 117 => ⟨S8x4096x16x2x2x16, .f32⟩
  | 118 => ⟨S8x4096x16x2x1x16, .f32⟩
  | 119 => ⟨S8x4096x16x2x16, .f32⟩
  | 120 => ⟨S8x4096x16x2x16, .f32⟩
  | 121 => ⟨S8x4096x16x2x1x16, .f32⟩
  | 122 => ⟨S8x4096x16x2x16, .f32⟩
  | 123 => ⟨S8x4096x16x2x1x16, .f32⟩
  | 124 => ⟨S8x4096x16x2x1x16, .f32⟩
  | 125 => ⟨S8x4096x16x2x2x16, .f32⟩
  | 126 => ⟨S8x4096x16x64, .f32⟩
  | 127 => ⟨S4096x1x64, .f32⟩
  | _ => ⟨S8x4096x1024, .f32⟩

abbrev hbmTy0_1 (i : Nat) : BufTy := match i % 128 with
  | 0 => ⟨S1x4096x1x64, .f32⟩
  | 1 => ⟨S8x4096x16x64, .f32⟩
  | 2 => ⟨S8x4096x16x64, .f32⟩
  | 3 => ⟨S4096x1x64, .f32⟩
  | 4 => ⟨S1x4096x1x64, .f32⟩
  | 5 => ⟨S8x4096x16x64, .f32⟩
  | 6 => ⟨S8x4096x16x64, .f32⟩
  | 7 => ⟨S8x4096x16x64, .f32⟩
  | 8 => ⟨S8x4096x1024, .f32⟩
  | 9 => ⟨S8x4096x16x64, .f32⟩
  | 10 => ⟨S8x4096x16x2x2x16, .f32⟩
  | 11 => ⟨S8x4096x16x2x1x16, .f32⟩
  | 12 => ⟨S8x4096x16x2x16, .f32⟩
  | 13 => ⟨S8x4096x16x2x16, .f32⟩
  | 14 => ⟨S8x4096x16x2x1x16, .f32⟩
  | 15 => ⟨S8x4096x16x2x16, .f32⟩
  | 16 => ⟨S8x4096x16x2x1x16, .f32⟩
  | 17 => ⟨S8x4096x16x2x1x16, .f32⟩
  | 18 => ⟨S8x4096x16x2x2x16, .f32⟩
  | 19 => ⟨S8x4096x16x64, .f32⟩
  | 20 => ⟨S4096x1x64, .f32⟩
  | 21 => ⟨S1x4096x1x64, .f32⟩
  | 22 => ⟨S8x4096x16x64, .f32⟩
  | 23 => ⟨S8x4096x16x64, .f32⟩
  | 24 => ⟨S4096x1x64, .f32⟩
  | 25 => ⟨S1x4096x1x64, .f32⟩
  | 26 => ⟨S8x4096x16x64, .f32⟩
  | 27 => ⟨S8x4096x16x64, .f32⟩
  | 28 => ⟨S8x4096x16x64, .f32⟩
  | 29 => ⟨S8x4096x1024, .f32⟩
  | 30 => ⟨S_, .f32⟩
  | 31 => ⟨S8x4096x1024, .f32⟩
  | 32 => ⟨S8x4096x1024, .f32⟩
  | 33 => ⟨S8x4096x3072, .f32⟩
  | 34 => ⟨S8x4096x3072, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v19 : Ref sig .tc := ⟨.hbm, 40, rfl⟩
abbrev main_v20 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst : Ref sig .tc := ⟨.hbm, 67, rfl⟩
abbrev main_v25 : Ref sig .tc := ⟨.hbm, 68, rfl⟩
abbrev main_v26 : Ref sig .tc := ⟨.hbm, 69, rfl⟩
abbrev main_cst_1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_2 : Ref sig .tc := ⟨.hbm, 89, rfl⟩
abbrev main_v45 : Ref sig .tc := ⟨.hbm, 90, rfl⟩
abbrev main_v46 : Ref sig .tc := ⟨.hbm, 91, rfl⟩
abbrev main_cst_3 : Ref sig .tc := ⟨.hbm, 92, rfl⟩
abbrev main_v47 : Ref sig .tc := ⟨.hbm, 93, rfl⟩
abbrev main_v48 : Ref sig .tc := ⟨.hbm, 94, rfl⟩
abbrev main_cst_4 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_5 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_6 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩

abbrev nD : Nat := 1
abbrev τ : Topo := Topo.v7x

variable {F : FTy → Type} [FloatOps F]
-- ==== Proof.Frames.lean ====
/-
  Every program leaves its arguments as they were and every semaphore at zero.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Frames

theorem kernel : Cert.quiescent_Kernel := fun m ρ _ => Cert.Kernel.Gen.frame m ρ
theorem kernelIdeal : Cert.quiescent_KernelIdeal := fun m ρ _ => Cert.KernelIdeal.Gen.frame m ρ
theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel3 : Cert.quiescent_Kernel3 := fun m ρ _ => Cert.Kernel3.Gen.frame m ρ
theorem kernel3Ideal : Cert.quiescent_Kernel3Ideal := fun m ρ _ => Cert.Kernel3Ideal.Gen.frame m ρ
theorem kernel4 : Cert.quiescent_Kernel4 := fun m ρ _ => Cert.Kernel4.Gen.frame m ρ
theorem kernel4Ideal : Cert.quiescent_Kernel4Ideal := fun m ρ _ => Cert.Kernel4Ideal.Gen.frame m ρ

/- A reference declares no semaphore. -/
theorem referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)
theorem reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)
theorem reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)
theorem reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

end Cert.Frames

end
-- ==== Proof.Online.lean ====
/-
  A softmax-weighted sum taken one tile at a time, over the reals.

  Of a list of scores `s` and values `w` the kernel carries, for some real `μ`, the sums of `exp (s k - μ)` and of
  `w k * exp (s k - μ)` over the tiles it has seen. A new tile may come with a new `μ'`: what was carried is then
  multiplied by `exp (μ - μ')`. Nothing here needs `μ` to be the maximum of the scores: the quotient of the two sums is
  the same for every `μ`.
-/
module

public import Idealize.ShloMosaic.PureOps.Ideal
public import Idealize.ShloMosaic.Lib.Pointwise

@[expose] public section

noncomputable section

namespace Cert.Online

open Idealize.ShloMosaic
open scoped BigOperators
open Finset

/-- A finite sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

/-- An extended real that is neither infinity is a real. -/
theorem exists_real {x : EReal} (h : x ≠ ⊥) (h' : x ≠ ⊤) : ∃ r : ℝ, x = r := ⟨x.toReal, (EReal.coe_toReal h' h).symm⟩

/-- The f32 pattern of −∞, a maximum's starting value, reads as the least extended real. -/
theorem start_eq : Ideal.ofBits .f32 0xFF800000#32 = ⊥ := by simp [Ideal.ofBits, Ideal.ieee]

/-- The maximum of reals over a nonempty finite set, taken from −∞, is a real. -/
theorem fold_real_on {ι : Type} (f : ι → EReal) (s : Finset ι) (hs : s.Nonempty) (hf : ∀ i, ∃ r : ℝ, f i = r) :
    ∃ r : ℝ, Finset.fold max (Ideal.ofBits .f32 0xFF800000#32) f s = r := by
  rw [start_eq]
  refine exists_real (ne_of_gt ((Finset.lt_fold_max _).mpr (Or.inr ?_))) (ne_of_lt ((Finset.fold_max_lt _).mpr ⟨?_, ?_⟩))
  · obtain ⟨i, hi⟩ := hs
    obtain ⟨r, hr⟩ := hf i
    exact ⟨i, hi, by rw [hr]; exact EReal.bot_lt_coe r⟩
  · exact bot_lt_top
  · intro i _
    obtain ⟨r, hr⟩ := hf i
    rw [hr]
    exact EReal.coe_lt_top r

/-- The maximum of a finite, nonempty family of reals, taken from −∞, is a real. -/
theorem fold_real {ι : Type} [Fintype ι] [Nonempty ι] (f : ι → EReal) (hf : ∀ i, ∃ r : ℝ, f i = r) :
    ∃ r : ℝ, Finset.fold max (Ideal.ofBits .f32 0xFF800000#32) f univ = r :=
  fold_real_on f univ univ_nonempty hf

/-- The greater of a real and such a maximum is a real. -/
theorem max_real {ι : Type} [Fintype ι] [Nonempty ι] (a : ℝ) (f : ι → EReal) (hf : ∀ i, ∃ r : ℝ, f i = r) :
    ∃ r : ℝ, max (a : EReal) (Finset.fold max (Ideal.ofBits .f32 0xFF800000#32) f univ) = r := by
  obtain ⟨r, hr⟩ := fold_real f hf
  exact ⟨max a r, by rw [hr]; exact (EReal.coe_strictMono.monotone.map_max).symm⟩

/-- The sum of `w k * exp (s k - μ)` over the first `n` tiles of 256. -/
def weighted (s w : ℕ → ℝ) (μ : ℝ) (n : ℕ) : ℝ := ∑ k ∈ range (256 * n), w k * Real.exp (s k - μ)

theorem weighted_zero (s w : ℕ → ℝ) (μ : ℝ) : weighted s w μ 0 = 0 := by simp [weighted]

/-- One more tile. -/
theorem weighted_succ (s w : ℕ → ℝ) (μ μ' : ℝ) (n : ℕ) :
    Real.exp (μ - μ') * weighted s w μ n + ∑ u : Fin 256, w (256 * n + u) * Real.exp (s (256 * n + u) - μ')
      = weighted s w μ' (n + 1) := by
  unfold weighted
  rw [show 256 * (n + 1) = 256 * n + 256 from by ring, sum_range_add, mul_sum, Finset.sum_range (n := 256)]
  refine congrArg (· + _) (sum_congr rfl fun k _ => ?_)
  rw [mul_left_comm, ← Real.exp_add]
  congr 2
  ring

/-- One more tile, as the kernel's operations on extended reals. -/
theorem weighted_step (s w : ℕ → ℝ) (μ μ' : ℝ) (n : ℕ) :
    Ideal.exp ((μ : EReal) - (μ' : EReal)) * (weighted s w μ n : EReal)
      + ∑ u : Fin 256, (w (256 * n + u) : EReal) * Ideal.exp ((s (256 * n + u) : EReal) - (μ' : EReal))
      = (weighted s w μ' (n + 1) : EReal) := by
  rw [← weighted_succ s w μ μ' n, EReal.coe_add, EReal.coe_mul, coe_sum]
  simp only [← EReal.coe_sub, Ideal.exp_coe, EReal.coe_mul]

/-- The softmax-weighted sum of the first `N` values. -/
def softmaxSum (s w : ℕ → ℝ) (N : ℕ) : ℝ := (∑ k ∈ range N, w k * Real.exp (s k)) / ∑ k ∈ range N, Real.exp (s k)

/-- The carried sums, divided: the softmax-weighted sum, whatever `μ`. -/
theorem weighted_div (s w : ℕ → ℝ) (μ : ℝ) (n : ℕ) :
    weighted s w μ n / weighted s (fun _ => 1) μ n = softmaxSum s w (256 * n) := by
  have h : ∀ f : ℕ → ℝ, weighted s f μ n = (∑ k ∈ range (256 * n), f k * Real.exp (s k)) * (Real.exp μ)⁻¹ := fun f => by
    unfold weighted
    rw [sum_mul]
    refine sum_congr rfl fun k _ => ?_
    rw [Real.exp_sub, div_eq_mul_inv, mul_assoc]
  unfold softmaxSum
  rw [h, h, mul_div_mul_right _ _ (inv_ne_zero (Real.exp_ne_zero μ))]
  simp only [one_mul]

theorem weighted_one_pos (s : ℕ → ℝ) (μ : ℝ) (n : ℕ) (hn : 0 < n) : 0 < weighted s (fun _ => 1) μ n :=
  sum_pos (fun k _ => by positivity) ⟨0, by simp; omega⟩

/-- The kernel's quotient of the carried sums. -/
theorem weighted_quotient (s w : ℕ → ℝ) (μ : ℝ) (n : ℕ) (hn : 0 < n) :
    Ideal.div (weighted s w μ n : EReal) (weighted s (fun _ => 1) μ n : EReal) = (softmaxSum s w (256 * n) : EReal) := by
  rw [Ideal.div_coe (weighted_one_pos s μ n hn).ne', ← EReal.coe_mul, mul_one_div, weighted_div]

/-- The softmax of the first `N` scores less any real `μ`, and the sum of the values it weights. -/
theorem softmaxSum_eq (s w : ℕ → ℝ) (μ : ℝ) (N : ℕ) :
    ∑ k : Fin N, Real.exp (s k - μ) / (∑ l : Fin N, Real.exp (s l - μ)) * w k = softmaxSum s w N := by
  have h : ∀ k, Real.exp (s k - μ) = Real.exp (s k) * (Real.exp μ)⁻¹ := fun k => by
    rw [Real.exp_sub, div_eq_mul_inv]
  unfold softmaxSum
  rw [Finset.sum_range, Finset.sum_range, sum_div]
  refine sum_congr rfl fun k _ => ?_
  simp only [h]
  rw [← sum_mul, mul_div_mul_right _ _ (inv_ne_zero (Real.exp_ne_zero μ))]
  ring

end Cert.Online

end
-- ==== Proof.Finite.lean ====
/-
  What the precondition `finite` of the differential attention gives: entries below +∞ in magnitude are reals.
-/
module

public import proofs.«01_k».proof.Defs
public import proofs.«01_k».proof.Proof.Online
public import Idealize.ShloMosaic.Lib.Pointwise

@[expose] public section

set_option maxRecDepth 16384

noncomputable section

open Idealize.ShloMosaic Idealize.ShloMosaic.TcCoe Idealize.SL.Sem

namespace Cert.Finite

/-- The shape relations the predicate states. -/
theorem facts : Cert.Pre_finite.Facts := ⟨by decide, by decide, by decide⟩

/-- An extended real whose magnitude compares below +∞ is a real. -/
theorem real_of_below (x y : EReal) (hy : y = ⊤)
    (h : Ideal.cmp .olt (max x (-x)) y = 1#1) : ∃ r : ℝ, x = r := by
  subst hy
  have h' : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  refine Online.exists_real ?_ ?_
  · rintro rfl
    simp at h'
  · rintro rfl
    simp at h'

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

theorem real_f32 {S : Shape} {at_ : Fin Cert.Pre_finite.S_.rank → Fin S.rank} (hb : Cert.Pre_finite.S_.BroadcastsInDim S at_) (x : FVec Ideal S .f32)
    (h : cmpf .olt (Host.absf x) (broadcastInDim S at_ hb (constant Cert.Pre_finite.S_ .f32 0x7F800000#32)) = fun _ => 1#1) (i : S.Idx) :
    ∃ r : ℝ, x i = (r : EReal) :=
  real_of_below (x i) _ top_f32 (congrFun h i)

theorem real_bf16 {S : Shape} {at_ : Fin Cert.Pre_finite.S_.rank → Fin S.rank} (hb : Cert.Pre_finite.S_.BroadcastsInDim S at_) (x : FVec Ideal S .bf16)
    (h : cmpf .olt (Host.absf x) (broadcastInDim S at_ hb (constant Cert.Pre_finite.S_ .bf16 0x7F80#16)) = fun _ => 1#1) (i : S.Idx) :
    ∃ r : ℝ, x i = (r : EReal) :=
  real_of_below (x i) _ top_bf16 (congrFun h i)

end Cert.Finite

end
-- ==== Proof.DiffLoop.lean ====
/-
  One pass of the kernel's loop over the key tiles, and the loop as a whole.

  A pass reads one tile of keys and one tile of values and replaces the four carried arrays: the running maximum, the
  running sum of weights, and the two running weighted sums of values. The four `trip` lemmas say what each carried
  array is replaced by. `loop` is the induction over the passes, for any property that a pass keeps.
-/
module

public import proofs.«01_k».proof.Proof.Gen.KernelIdeal.Frame
public import Idealize.ShloMosaic.Lib.Pointwise
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.KernelIdeal.Diff

open Cert.KernelIdeal Cert.KernelIdeal.Gen

variable (c : Dev nD) (i : grid0.Coords)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x1 .f32) (harg7 : arg7.IsWhole)
  (arg8 : Memref sig .tc .vmem S1x1x128x256 .bf16) (harg8 : arg8.IsWhole)
  (arg9 : Memref sig .tc .vmem S1x1x4352x128 .bf16) (harg9 : arg9.IsWhole)
  (arg10 : Memref sig .tc .vmem S1x1x17x128x256 .bf16) (harg10 : arg10.IsWhole)
  (arg11 : Memref sig .tc .vmem S1x1x128x256 .bf16) (harg11 : arg11.IsWhole)
  (arg12 : Memref sig .tc .vmem S128x512 .bf16) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x256 .f32) (harg15 : arg15.IsWhole)
  (arg16 : Memref sig .tc .vmem S128x256 .f32) (harg16 : arg16.IsWhole)
  (v28 : FVec Ideal S128x256 .f32) (X9 : BufTy.Contents (Elt Ideal) arg9.view.ty) (X10 : BufTy.Contents (Elt Ideal) arg10.view.ty) (X12 : BufTy.Contents (Elt Ideal) arg12.view.ty)

section Trip

variable (k : Fin k0_t1_loop.trips)
  (f13 : BufTy.Contents (Elt Ideal) arg13.view.ty) (f14 : BufTy.Contents (Elt Ideal) arg14.view.ty) (f15 : BufTy.Contents (Elt Ideal) arg15.view.ty) (f16 : BufTy.Contents (Elt Ideal) arg16.view.ty)

/-- A pass replaces the running maximum. -/
theorem trip13 : arg13.view.read (Elt Ideal) (arg13.view.writes (Elt Ideal) f13 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 k f13 f14 f15 f16).1)
    = k0_pay7 (View.ld (arg9.view.read (Elt Ideal) X9) (Rect.unit (s := S1x1x4352x128) (k0_off1 k) S1x1x256x128.size (k0_off1_inb k))) (arg12.view.read (Elt Ideal) X12) (arg13.view.read (Elt Ideal) f13) := by
  unfold tripL_k0_t1 trip_k0_t1
  dsimp only
  frame_out
  exact View.read_writes_full _ _ _ _ _

/-- A pass replaces the running sum of weights. -/
theorem trip14 : arg14.view.read (Elt Ideal) (arg14.view.writes (Elt Ideal) f14 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 k f13 f14 f15 f16).2.1)
    = k0_pay6 (View.ld (arg9.view.read (Elt Ideal) X9) (Rect.unit (s := S1x1x4352x128) (k0_off1 k) S1x1x256x128.size (k0_off1_inb k))) (arg12.view.read (Elt Ideal) X12) (arg13.view.read (Elt Ideal) f13) (arg14.view.read (Elt Ideal) f14) := by
  unfold tripL_k0_t1 trip_k0_t1
  dsimp only
  frame_out
  exact View.read_writes_full _ _ _ _ _

/-- A pass replaces the first running weighted sum of values. -/
theorem trip15 : arg15.view.read (Elt Ideal) (arg15.view.writes (Elt Ideal) f15 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 k f13 f14 f15 f16).2.2.1)
    = k0_pay21 (k0_pay8 (View.ld (arg9.view.read (Elt Ideal) X9) (Rect.unit (s := S1x1x4352x128) (k0_off1 k) S1x1x256x128.size (k0_off1_inb k))) (arg12.view.read (Elt Ideal) X12) (arg13.view.read (Elt Ideal) f13)) (k0_pay9 (View.ld (arg10.view.read (Elt Ideal) X10) (Rect.unit (s := S1x1x17x128x256) (k0_off2 k) S1x1x1x128x256.size (k0_off2_inb k)))) (arg15.view.read (Elt Ideal) f15) (k0_pay10 (View.ld (arg9.view.read (Elt Ideal) X9) (Rect.unit (s := S1x1x4352x128) (k0_off1 k) S1x1x256x128.size (k0_off1_inb k))) (arg12.view.read (Elt Ideal) X12) (arg13.view.read (Elt Ideal) f13)) := by
  unfold tripL_k0_t1 trip_k0_t1
  dsimp only
  frame_out
  exact View.read_writes_full _ _ _ _ _

/-- A pass replaces the second running weighted sum of values. -/
theorem trip16 : arg16.view.read (Elt Ideal) (arg16.view.writes (Elt Ideal) f16 (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 k f13 f14 f15 f16).2.2.2)
    = k0_pay22 (k0_pay4 (View.ld (arg9.view.read (Elt Ideal) X9) (Rect.unit (s := S1x1x4352x128) (k0_off1 k) S1x1x256x128.size (k0_off1_inb k))) (arg12.view.read (Elt Ideal) X12) (arg13.view.read (Elt Ideal) f13)) (k0_pay8 (View.ld (arg9.view.read (Elt Ideal) X9) (Rect.unit (s := S1x1x4352x128) (k0_off1 k) S1x1x256x128.size (k0_off1_inb k))) (arg12.view.read (Elt Ideal) X12) (arg13.view.read (Elt Ideal) f13)) (k0_pay9 (View.ld (arg10.view.read (Elt Ideal) X10) (Rect.unit (s := S1x1x17x128x256) (k0_off2 k) S1x1x1x128x256.size (k0_off2_inb k)))) (arg16.view.read (Elt Ideal) f16) := by
  unfold tripL_k0_t1 trip_k0_t1
  dsimp only
  frame_out
  exact View.read_writes_full _ _ _ _ _

end Trip

/-- Tile `k` of a block of keys, as the loop loads it. -/
abbrev keyTile (K : Vec Ideal S1x1x4352x128 .bf16) (k : Fin k0_t1_loop.trips) : Vec Ideal S1x1x256x128 .bf16 :=
  View.ld K (Rect.unit (s := S1x1x4352x128) (k0_off1 k) S1x1x256x128.size (k0_off1_inb k))

/-- Tile `k` of a block of values, as the loop loads it. -/
abbrev valTile (V : Vec Ideal S1x1x17x128x256 .bf16) (k : Fin k0_t1_loop.trips) : Vec Ideal S1x1x1x128x256 .bf16 :=
  View.ld V (Rect.unit (s := S1x1x17x128x256) (k0_off2 k) S1x1x1x128x256.size (k0_off2_inb k))

/-- A property of the four carried arrays, indexed by the number of passes done, that one pass over tile `k` keeps. -/
def Kept (K : Vec Ideal S1x1x4352x128 .bf16) (V : Vec Ideal S1x1x17x128x256 .bf16) (Q : Vec Ideal S128x512 .bf16)
    (P : ℕ → Vec Ideal S1x512 .f32 → Vec Ideal S1x512 .f32 → Vec Ideal S128x256 .f32 → Vec Ideal S128x256 .f32 → Prop) : Prop :=
  ∀ (k : Fin k0_t1_loop.trips) (M L : Vec Ideal S1x512 .f32) (A₁ A₂ : Vec Ideal S128x256 .f32), P k.val M L A₁ A₂ →
    P (k.val + 1) (k0_pay7 (keyTile K k) Q M) (k0_pay6 (keyTile K k) Q M L)
      (k0_pay21 (k0_pay8 (keyTile K k) Q M) (k0_pay9 (valTile V k)) A₁ (k0_pay10 (keyTile K k) Q M))
      (k0_pay22 (k0_pay4 (keyTile K k) Q M) (k0_pay8 (keyTile K k) Q M) (k0_pay9 (valTile V k)) A₂)

/-- What every pass keeps holds after `n` passes. -/
theorem loop
    (P : ℕ → Vec Ideal S1x512 .f32 → Vec Ideal S1x512 .f32 → Vec Ideal S128x256 .f32 → Vec Ideal S128x256 .f32 → Prop)
    (hP : Kept (arg9.view.read (Elt Ideal) X9) (arg10.view.read (Elt Ideal) X10) (arg12.view.read (Elt Ideal) X12) P)
    (G13 : BufTy.Contents (Elt Ideal) arg13.view.ty) (G14 : BufTy.Contents (Elt Ideal) arg14.view.ty)
    (G15 : BufTy.Contents (Elt Ideal) arg15.view.ty) (G16 : BufTy.Contents (Elt Ideal) arg16.view.ty)
    (h0 : P 0 (arg13.view.read (Elt Ideal) G13) (arg14.view.read (Elt Ideal) G14) (arg15.view.read (Elt Ideal) G15)
      (arg16.view.read (Elt Ideal) G16)) :
    ∀ n : ℕ, n ≤ k0_t1_loop.trips →
      P n (arg13.view.read (Elt Ideal) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 G13 G14 G15 G16 n).1))
        (arg14.view.read (Elt Ideal) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 G13 G14 G15 G16 n).2.1))
        (arg15.view.read (Elt Ideal) (arg15.view.writes (Elt Ideal) G15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 G13 G14 G15 G16 n).2.2.1))
        (arg16.view.read (Elt Ideal) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 G13 G14 G15 G16 n).2.2.2))
  | 0, _ => h0
  | n + 1, hn => by
    have ih := loop P hP G13 G14 G15 G16 h0 n (Nat.le_of_succ_le hn)
    have h := hP ⟨n, hn⟩ _ _ _ _ ih
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 v28 X9 X10 X12 G13 G14 G15 G16 ⟨n, hn⟩
    rw [e]
    dsimp only
    rw [View.writes_append, View.writes_append, View.writes_append, View.writes_append]
    rw [trip13, trip14, trip15, trip16]
    exact h

end Cert.KernelIdeal.Diff

end
-- ==== Proof.DiffOut.lean ====
/-
  What the kernel leaves in its output block, in terms of what the loop over the key tiles leaves in the four carried
  arrays: the two running weighted sums divided by the running sum of weights, then the closing formula `k0_pay1`.
-/
module

public import proofs.«01_k».proof.Proof.DiffLoop

@[expose] public section

set_option maxRecDepth 16384

noncomputable section

open Idealize.ShloMosaic Idealize.ShloMosaic.TcCoe Idealize.SL.Sem

namespace Cert.KernelIdeal.Diff

open Cert.KernelIdeal Cert.KernelIdeal.Gen

variable (c : Dev nD) (i : grid0.Coords)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x1 .f32) (harg7 : arg7.IsWhole)
  (arg8 : Memref sig .tc .vmem S1x1x128x256 .bf16) (harg8 : arg8.IsWhole)
  (arg9 : Memref sig .tc .vmem S1x1x4352x128 .bf16) (harg9 : arg9.IsWhole)
  (arg10 : Memref sig .tc .vmem S1x1x17x128x256 .bf16) (harg10 : arg10.IsWhole)
  (arg11 : Memref sig .tc .vmem S1x1x128x256 .bf16) (harg11 : arg11.IsWhole)
  (arg12 : Memref sig .tc .vmem S128x512 .bf16) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x256 .f32) (harg15 : arg15.IsWhole)
  (arg16 : Memref sig .tc .vmem S128x256 .f32) (harg16 : arg16.IsWhole)
    (x0 : Vec Ideal S1x64 .f32) (x1 : Vec Ideal S1x64 .f32) (x2 : Vec Ideal S1x64 .f32) (x3 : Vec Ideal S1x64 .f32) (x4 : Vec Ideal S128x1 .f32) (x5 : Vec Ideal S1x1x128x256 .bf16) (x6 : Vec Ideal S1x1x4352x128 .bf16) (x7 : Vec Ideal S1x1x17x128x256 .bf16)

/-- The block-diagonal array of queries: the four pieces the kernel stores, last first. -/
abbrev queryPieces : List (View.Piece (Elt Ideal) S128x512 .bf16) :=
  [⟨Rect.unit (s := S128x512) ![64, 256] S64x256.size inb_S128x512_S64x256_64_256, k0_pay16 x5⟩,
   ⟨Rect.unit (s := S128x512) ![64, 0] S64x256.size inb_S128x512_S64x256_64_0, (k0_pay15 (F := Ideal))⟩,
   ⟨Rect.unit (s := S128x512) ![0, 256] S64x256.size inb_S128x512_S64x256_0_256, (k0_pay14 (F := Ideal))⟩,
   ⟨Rect.unit (s := S128x512) ![0, 0] S64x256.size inb_S128x512_S64x256_0_0, k0_pay13 x5⟩]

/-- What the loop keeps, and holds at its start, decides the output block. -/
theorem out_of_kept
    (P : ℕ → Vec Ideal S1x512 .f32 → Vec Ideal S1x512 .f32 → Vec Ideal S128x256 .f32 → Vec Ideal S128x256 .f32 → Prop)
    (hP : Kept x6 x7 (arg12.view.read (Elt Ideal) (arg12.view.writes (Elt Ideal) arg12.view.junk (queryPieces x5))) P)
    (h0 : P 0 (k0_pay17 (F := Ideal)) (k0_pay18 (F := Ideal)) (k0_pay19 (F := Ideal)) (k0_pay20 (F := Ideal))) :
    ∃ M L A₁ A₂, P 17 M L A₁ A₂ ∧ out0_A_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay1 (k0_pay23 x0 x1 x2 x3) (k0_pay24 L A₁) (k0_pay25 L A₂) x4 := by
  have h := loop c i arg3 harg3 arg4 harg4 arg5 harg5 arg6 harg6 arg7 harg7 arg8 harg8 arg9 harg9 arg10 harg10 arg11 harg11 arg12 harg12 arg13 harg13 arg14 harg14 arg15 harg15 arg16 harg16 (k0_pay19 (F := Ideal)) (harg9.unread x6) (harg10.unread x7)
    (arg12.view.writes (Elt Ideal) arg12.view.junk (queryPieces x5)) P (by rw [harg9.read_unread, harg10.read_unread]; exact hP)
    (arg13.view.writes (Elt Ideal) arg13.view.junk [⟨Rect.unit (s := S1x512) ![0, 0] S1x512.size inb_S1x512_S1x512_0_0, (k0_pay17 (F := Ideal))⟩])
    (arg14.view.writes (Elt Ideal) arg14.view.junk [⟨Rect.unit (s := S1x512) ![0, 0] S1x512.size inb_S1x512_S1x512_0_0, (k0_pay18 (F := Ideal))⟩])
    (arg15.view.writes (Elt Ideal) arg15.view.junk [⟨Rect.unit (s := S128x256) ![0, 0] S128x256.size inb_S128x256_S128x256_0_0, (k0_pay19 (F := Ideal))⟩])
    (arg16.view.writes (Elt Ideal) arg16.view.junk [⟨Rect.unit (s := S128x256) ![0, 0] S128x256.size inb_S128x256_S128x256_0_0, (k0_pay20 (F := Ideal))⟩])
    (by rw [View.read_writes_full, View.read_writes_full, View.read_writes_full, View.read_writes_full]; exact h0)
    17 (by decide)
  refine ⟨_, _, _, _, h, ?_⟩
  frame_out
  have e17 : Scf.trips (0#32) (Scalar.addi 0#32 17#32) 1#32 = 17 := by decide
  simp only [View.readCov, View.writes_append, e17]
  have hc : ∀ {a a' : FVec Ideal S1x1 .f32} {b b' d d' : FVec Ideal S128x256 .f32}, a = a' → b = b' → d = d' →
      k0_pay1 (F := Ideal) a b d x4 = k0_pay1 a' b' d' x4 := by
    rintro _ _ _ _ _ _ rfl rfl rfl; rfl
  refine hc rfl ?_ ?_
  · exact congrArg₂ k0_pay24 (View.readAt_full _ _ _) (View.readAt_full _ _ _)
  · exact congrArg₂ k0_pay25 (View.readAt_full _ _ _) (View.readAt_full _ _ _)

end Cert.KernelIdeal.Diff

end
-- ==== Proof.DiffPass.lean ====
/-
  One pass of the attention's loop, read as mathematics: the carried arrays are, for each query column, the running sums
  of `Proof.Online` over the keys seen, and a pass adds one tile of 256 keys.
-/
module

public import proofs.«01_k».proof.Proof.DiffOut
public import proofs.«01_k».proof.Proof.Online

@[expose] public section

set_option maxRecDepth 16384

noncomputable section

namespace Cert.KernelIdeal.Diff

open Cert.KernelIdeal Cert.KernelIdeal.Gen Idealize.ShloMosaic Idealize.ShloMosaic.TcCoe Idealize.SL.Sem
open scoped BigOperators

/-- The queries as the kernel lays them out: 512 columns, of which the first 256 hold the first half of each query over
    zeros, and the last 256 the zeros over the second half. -/
def wide (q : Fin 128 → Fin 256 → ℝ) (d : Fin 128) (j : Fin 512) : ℝ :=
  if h : j.val < 256 then (if d.val < 64 then q d ⟨j.val, h⟩ else 0)
  else (if d.val < 64 then 0 else q d ⟨j.val - 256, by omega⟩)

/-- The score of key `k` against column `j`. -/
def score (K : ℕ → Fin 128 → ℝ) (Q : Fin 128 → Fin 512 → ℝ) (j : Fin 512) (k : ℕ) : ℝ := ∑ d : Fin 128, K k d * Q d j

/-- Column `i` of the first map. -/
abbrev lo (i : Fin 256) : Fin 512 := ⟨i.val, by omega⟩

/-- Column `i` of the second map. -/
abbrev hi (i : Fin 256) : Fin 512 := ⟨256 + i.val, by omega⟩

/-- What is carried after `n` tiles: for a real `μ j` per column, the running sums of `Proof.Online`. -/
def Carried (K V : ℕ → Fin 128 → ℝ) (Q : Fin 128 → Fin 512 → ℝ) (n : ℕ) (M L : Vec Ideal S1x512 .f32)
    (A₁ A₂ : Vec Ideal S128x256 .f32) : Prop :=
  ∃ μ : Fin 512 → ℝ,
    (∀ j, M (ix2 0 j) = ((μ j : ℝ) : EReal)) ∧
    (∀ j, L (ix2 0 j) = ((Online.weighted (score K Q j) (fun _ => 1) (μ j) n : ℝ) : EReal)) ∧
    (∀ e i, A₁ (ix2 e i) = ((Online.weighted (score K Q (lo i)) (fun k => V k e) (μ (lo i)) n : ℝ) : EReal)) ∧
    (∀ e i, A₂ (ix2 e i) = ((Online.weighted (score K Q (hi i)) (fun k => V k e) (μ (hi i)) n : ℝ) : EReal))

section Pass

variable (T : Vec Ideal S1x1x256x128 .bf16) (W : Vec Ideal S1x1x1x128x256 .bf16)
  (B : Vec Ideal S128x512 .bf16) (M L : Vec Ideal S1x512 .f32) (A : Vec Ideal S128x256 .f32)

theorem scores_apply (u : Fin 256) (j : Fin 512) :
    k0_pay2 T B (ix2 u j) = ∑ x : Fin 128, T (ix4 0 0 u x) * B (ix2 x j) := by pointwise [k0_pay2]

theorem max_apply (j : Fin 512) :
    k0_pay3 T B M (ix2 0 j) = max (M (ix2 0 j))
      (Finset.fold max (Ideal.ofBits FTy.f32 4286578688#32) (fun x : Fin 256 => k0_pay2 T B (ix2 x j)) Finset.univ) := by
  pointwise [k0_pay3]

theorem factor_apply (j : Fin 512) :
    k0_pay4 T B M (ix2 0 j) = Ideal.exp (M (ix2 0 j) - k0_pay3 T B M (ix2 0 j)) := by pointwise [k0_pay4]

theorem weight_apply (u : Fin 256) (j : Fin 512) :
    k0_pay5 T B M (ix2 u j) = Ideal.exp (k0_pay2 T B (ix2 u j) - k0_pay3 T B M (ix2 0 j)) := by pointwise [k0_pay5]

theorem total_apply (j : Fin 512) :
    k0_pay6 T B M L (ix2 0 j) = k0_pay4 T B M (ix2 0 j) * L (ix2 0 j) + ∑ x : Fin 256, k0_pay5 T B M (ix2 x j) := by
  pointwise [k0_pay6]

theorem keep_apply (j : Fin 512) : k0_pay7 T B M (ix2 0 j) = k0_pay3 T B M (ix2 0 j) := by pointwise [k0_pay7]

theorem first_apply (e : Fin 128) (i : Fin 256) :
    k0_pay21 (k0_pay8 T B M) (k0_pay9 W) A (k0_pay10 T B M) (ix2 e i)
      = k0_pay4 T B M (ix2 0 (lo i)) * A (ix2 e i) + ∑ x : Fin 256, W (ix5 0 0 0 e x) * k0_pay5 T B M (ix2 x (lo i)) := by
  pointwise [k0_pay21, k0_pay8, k0_pay9, k0_pay10, lo]

theorem second_apply (e : Fin 128) (i : Fin 256) :
    k0_pay22 (k0_pay4 T B M) (k0_pay8 T B M) (k0_pay9 W) A (ix2 e i)
      = k0_pay4 T B M (ix2 0 (hi i)) * A (ix2 e i) + ∑ x : Fin 256, W (ix5 0 0 0 e x) * k0_pay5 T B M (ix2 x (hi i)) := by
  pointwise [k0_pay22, k0_pay8, k0_pay9, hi]

end Pass

/-- A pass keeps the invariant. -/
theorem carried_kept (x6 : Vec Ideal S1x1x4352x128 .bf16) (x7 : Vec Ideal S1x1x17x128x256 .bf16)
    (B : Vec Ideal S128x512 .bf16) (K V : ℕ → Fin 128 → ℝ) (Q : Fin 128 → Fin 512 → ℝ)
    (hK : ∀ (k : Fin 4352) d, x6 (ix4 0 0 k d) = ((K k.val d : ℝ) : EReal))
    (hV : ∀ (t : Fin 17) e (u : Fin 256), x7 (ix5 0 0 t e u) = ((V (256 * t.val + u.val) e : ℝ) : EReal))
    (hQ : ∀ d j, B (ix2 d j) = ((Q d j : ℝ) : EReal)) :
    Kept x6 x7 B (Carried K V Q) := by
  rintro k M L A₁ A₂ ⟨μ, hM, hL, h₁, h₂⟩
  have hk : k.val < 17 := k.isLt
  have hT : ∀ (u : Fin 256) d, keyTile x6 k (ix4 0 0 u d) = ((K (256 * k.val + u.val) d : ℝ) : EReal) := fun u d => by
    refine Eq.trans ?_ (hK ⟨256 * k.val + u.val, by omega⟩ d)
    pointwise [keyTile, k0_off1_eq]
  have hW : ∀ e (u : Fin 256), valTile x7 k (ix5 0 0 0 e u) = ((V (256 * k.val + u.val) e : ℝ) : EReal) := fun e u => by
    refine Eq.trans ?_ (hV ⟨k.val, hk⟩ e u)
    pointwise [valTile, k0_off2_eq]
  have hS : ∀ (u : Fin 256) j, k0_pay2 (keyTile x6 k) B (ix2 u j)
      = ((score K Q j (256 * k.val + u.val) : ℝ) : EReal) := fun u j => by
    rw [scores_apply, score, Online.coe_sum]
    refine Finset.sum_congr rfl fun d _ => ?_
    rw [hT, hQ, EReal.coe_mul]
  have hmax : ∀ j, ∃ r : ℝ, k0_pay3 (keyTile x6 k) B M (ix2 0 j) = (r : EReal) := fun j => by
    rw [max_apply, hM]
    exact Online.max_real _ _ fun u => ⟨_, hS u j⟩
  choose μ' hμ' using hmax
  refine ⟨μ', fun j => (keep_apply ..).trans (hμ' j), fun j => ?_, fun e i => ?_, fun e i => ?_⟩
  · rw [total_apply, factor_apply, hM, hμ', hL, ← Online.weighted_step]
    refine congrArg _ (Finset.sum_congr rfl fun u _ => ?_)
    rw [weight_apply, hS, hμ', EReal.coe_one, one_mul]
  · rw [first_apply, factor_apply, hM, hμ', h₁, ← Online.weighted_step]
    refine congrArg _ (Finset.sum_congr rfl fun u _ => ?_)
    rw [weight_apply, hS, hμ', hW]
  · rw [second_apply, factor_apply, hM, hμ', h₂, ← Online.weighted_step]
    refine congrArg _ (Finset.sum_congr rfl fun u _ => ?_)
    rw [weight_apply, hS, hμ', hW]

/-- Before the first pass the invariant holds: `μ` is the kernel's finite starting value and the sums are empty. -/
theorem carried_zero (K V : ℕ → Fin 128 → ℝ) (Q : Fin 128 → Fin 512 → ℝ) :
    Carried K V Q 0 (k0_pay17 (F := Ideal)) (k0_pay18 (F := Ideal)) (k0_pay19 (F := Ideal)) (k0_pay20 (F := Ideal)) := by
  have hr : ∃ r : ℝ, Ideal.ofBits .f32 4048155338#32 = (r : EReal) :=
    Online.exists_real (by simp [Ideal.ofBits, Ideal.ieee, -EReal.coe_mul]) (by simp [Ideal.ofBits, Ideal.ieee, -EReal.coe_mul])
  obtain ⟨r, hr⟩ := hr
  refine ⟨fun _ => r, fun j => ?_, fun j => ?_, fun e i => ?_, fun e i => ?_⟩
  · rw [← hr]; pointwise [k0_pay17]
  · rw [Online.weighted_zero, EReal.coe_zero]; pointwise [k0_pay18]
  · rw [Online.weighted_zero, EReal.coe_zero]; pointwise [k0_pay19]
  · rw [Online.weighted_zero, EReal.coe_zero]; pointwise [k0_pay20]

/-- The query block the loop reads, four stores of a 64×256 quarter each. -/
theorem query_read (r : Memref sig .tc .vmem S128x512 .bf16) (x5 : Vec Ideal S1x1x128x256 .bf16) (q : Fin 128 → Fin 256 → ℝ)
    (hq : ∀ d i, x5 (ix4 0 0 d i) = ((q d i : ℝ) : EReal)) (d : Fin 128) (j : Fin 512) :
    r.view.read (Elt Ideal) (r.view.writes (Elt Ideal) r.view.junk (queryPieces x5)) (ix2 d j) = ((wide q d j : ℝ) : EReal) := by
  unfold queryPieces wide
  by_cases hd : d.val < 64 <;> by_cases hj : j.val < 256
  · rw [dif_pos hj, if_pos hd]
    refine (View.read_writes_cons_unit_of_not_mem r.view r.view.junk _ _ _ _ rfl (0 : Fin 2) (Or.inl ?_)).trans
      ((View.read_writes_cons_unit_of_not_mem r.view r.view.junk _ _ _ _ rfl (0 : Fin 2) (Or.inl ?_)).trans
      ((View.read_writes_cons_unit_of_not_mem r.view r.view.junk _ _ _ _ rfl (1 : Fin 2) (Or.inl ?_)).trans
      ((View.read_writes_cons_unit_of_mem r.view r.view.junk _ _ _ _ (ix2 ⟨d.val, hd⟩ ⟨j.val, hj⟩) rfl ?_).trans ?_)))
    · exact hd
    · exact hd
    · exact hj
    · exact Fin.forall_fin_two.mpr ⟨(Nat.zero_add _).symm, (Nat.zero_add _).symm⟩
    · refine Eq.trans ?_ (hq d ⟨j.val, hj⟩)
      pointwise [k0_pay13, k0_pay11]
  · rw [dif_neg hj, if_pos hd]
    refine (View.read_writes_cons_unit_of_not_mem r.view r.view.junk _ _ _ _ rfl (0 : Fin 2) (Or.inl ?_)).trans
      ((View.read_writes_cons_unit_of_not_mem r.view r.view.junk _ _ _ _ rfl (0 : Fin 2) (Or.inl ?_)).trans
      ((View.read_writes_cons_unit_of_mem r.view r.view.junk _ _ _ _ (ix2 ⟨d.val, hd⟩ ⟨j.val - 256, by omega⟩) rfl ?_).trans ?_))
    · exact hd
    · exact hd
    · exact Fin.forall_fin_two.mpr ⟨(Nat.zero_add _).symm, (Nat.add_sub_cancel' (not_lt.mp hj)).symm⟩
    · rw [EReal.coe_zero]
      pointwise [k0_pay14, k0_pay12]
  · rw [dif_pos hj, if_neg hd]
    refine (View.read_writes_cons_unit_of_not_mem r.view r.view.junk _ _ _ _ rfl (1 : Fin 2) (Or.inl ?_)).trans
      ((View.read_writes_cons_unit_of_mem r.view r.view.junk _ _ _ _ (ix2 ⟨d.val - 64, by omega⟩ ⟨j.val, hj⟩) rfl ?_).trans ?_)
    · exact hj
    · exact Fin.forall_fin_two.mpr ⟨(Nat.add_sub_cancel' (not_lt.mp hd)).symm, (Nat.zero_add _).symm⟩
    · rw [EReal.coe_zero]
      pointwise [k0_pay15, k0_pay12]
  · rw [dif_neg hj, if_neg hd]
    refine (View.read_writes_cons_unit_of_mem r.view r.view.junk _ _ _ _
      (ix2 ⟨d.val - 64, by omega⟩ ⟨j.val - 256, by omega⟩) rfl ?_).trans ?_
    · exact Fin.forall_fin_two.mpr ⟨(Nat.add_sub_cancel' (not_lt.mp hd)).symm, (Nat.add_sub_cancel' (not_lt.mp hj)).symm⟩
    · refine Eq.trans ?_ (hq d ⟨j.val - 256, by omega⟩)
      have e : (⟨64 + (d.val - 64), by omega⟩ : Fin 128) = d := Fin.ext (by show 64 + (d.val - 64) = d.val; omega)
      pointwise [k0_pay16, k0_pay11]
      exact congrArg (fun d => x5 (ix4 0 0 d ⟨j.val - 256, by omega⟩)) e

end Cert.KernelIdeal.Diff

end
-- ==== Proof.DiffMath.lean ====
/-
  Differential attention of one query row, as mathematics: what both the kernel and the reference compute.

  The queries, keys and values are real numbers (the precondition of the claim); the normalisation's gain is any extended
  real.
-/
module

public import proofs.«01_k».proof.Proof.Online

@[expose] public section

noncomputable section

namespace Cert.Attention

open Idealize.ShloMosaic
open scoped BigOperators

/-- The keys (or values) of one head: lanes `base … base + 127` of the batch's tokens, then of its context rows. -/
def rowsOf (px pc : ℕ → ℕ → ℕ → ℝ) (b base k : ℕ) (d : Fin 128) : ℝ :=
  if k < 4096 then px b k (base + d.val) else pc b (k - 4096) (base + d.val)

/-- The score of key `k` in map `x`: the scalar product of the map's 64 lanes of the query and of the key. -/
def mapScore (K : ℕ → Fin 128 → ℝ) (q : Fin 128 → ℝ) (x : Fin 2) (k : ℕ) : ℝ :=
  ∑ d : Fin 64, q ⟨x.val * 64 + d.val, by omega⟩ * K k ⟨x.val * 64 + d.val, by omega⟩

/-- The first map's weighted sum of the values less `lam` times the second's. -/
def attended (K V : ℕ → Fin 128 → ℝ) (q : Fin 128 → ℝ) (lam : ℝ) (e : Fin 128) : ℝ :=
  Online.softmaxSum (mapScore K q 0) (fun k => V k e) 4352 - lam * Online.softmaxSum (mapScore K q 1) (fun k => V k e) 4352

/-- The same with the two maps' weights subtracted first, each softmax taken less a real of its own. -/
theorem attended_eq (K V : ℕ → Fin 128 → ℝ) (q : Fin 128 → ℝ) (lam : ℝ) (e : Fin 128) (μ : Fin 2 → ℝ) :
    ∑ k : Fin 4352, (Real.exp (mapScore K q 0 k - μ 0) / (∑ l : Fin 4352, Real.exp (mapScore K q 0 l - μ 0))
        - lam * (Real.exp (mapScore K q 1 k - μ 1) / (∑ l : Fin 4352, Real.exp (mapScore K q 1 l - μ 1)))) * V k e
      = attended K V q lam e := by
  unfold attended
  rw [← Online.softmaxSum_eq _ _ (μ 0), ← Online.softmaxSum_eq _ _ (μ 1), Finset.mul_sum, ← Finset.sum_sub_distrib]
  refine Finset.sum_congr rfl fun k _ => ?_
  ring

/-- The number λ of the four λ vectors. -/
def lamOf (a b c d : Fin 64 → EReal) : EReal :=
  Ideal.exp (∑ x, a x * b x) - Ideal.exp (∑ x, c x * d x) + Ideal.ofBits .f32 0x3EB60549#32

/-- The normalisation of one row, its gain `g`, and the constant 1 − λ₀. -/
def closed (o g : Fin 128 → EReal) (e : Fin 128) : EReal :=
  o e * Ideal.rsqrt (Ideal.div (∑ x, o x * o x) (Ideal.ofBits .f32 0x43000000#32) + Ideal.ofBits .f32 0x358637BD#32) * g e
    * Ideal.ofBits .f32 0x3F24FD5C#32

/-- λ of real vectors is real. -/
theorem lamOf_real (a b c d : Fin 64 → EReal) (ha : ∀ x, ∃ r : ℝ, a x = r) (hb : ∀ x, ∃ r : ℝ, b x = r)
    (hc : ∀ x, ∃ r : ℝ, c x = r) (hd : ∀ x, ∃ r : ℝ, d x = r) : ∃ r : ℝ, lamOf a b c d = r := by
  choose a' ha' using ha
  choose b' hb' using hb
  choose c' hc' using hc
  choose d' hd' using hd
  have hk : ∃ r : ℝ, Ideal.ofBits .f32 0x3EB60549#32 = r :=
    Online.exists_real (by simp [Ideal.ofBits, Ideal.ieee, -EReal.coe_mul]) (by simp [Ideal.ofBits, Ideal.ieee, -EReal.coe_mul])
  obtain ⟨k, hk⟩ := hk
  refine ⟨Real.exp (∑ x, a' x * b' x) - Real.exp (∑ x, c' x * d' x) + k, ?_⟩
  unfold lamOf
  simp only [ha', hb', hc', hd', hk, ← EReal.coe_mul, ← Online.coe_sum, Ideal.exp_coe, ← EReal.coe_sub, ← EReal.coe_add]

end Cert.Attention

end
-- ==== Proof.DiffGrid.lean ====
/-
  The grid of the differential attention: the block each window shows at a grid point, and the batch, head and tokens of a point.
-/
module

public import proofs.«01_k».proof.Proof.DiffPass
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen
open scoped BigOperators

/-- Which block each window shows at a grid point (8 batches of 8 heads of 16 query tiles). -/
theorem idx : ∀ t : Fin cfg0.N, win0_0.index t = ![0, 0] ∧ win0_1.index t = ![0, 0] ∧ win0_2.index t = ![0, 0]
    ∧ win0_3.index t = ![0, 0] ∧ win0_4.index t = ![0, 0]
    ∧ win0_5.index t = ![t.val / 128, t.val / 16 % 8, 0, t.val % 16] ∧ win0_6.index t = ![t.val / 128, t.val / 16 % 8, 0, 0]
    ∧ win0_7.index t = ![t.val / 128, t.val / 16 % 8, 0, 0, 0] ∧ win0_8.index t = ![t.val / 128, t.val / 16 % 8, 0, t.val % 16] :=
  (by decide +kernel : ∀ t : Fin grid0.N, _)

variable (t : Fin cfg0.N)

/-- A grid point's batch and head, and the token its block's column `i` is. -/
abbrev batch : Fin 8 := ⟨t.val / 128, by have := t.isLt; have : cfg0.N = 1024 := N_0; omega⟩
abbrev head : Fin 8 := ⟨t.val / 16 % 8, by omega⟩
abbrev token (i : Fin 256) : Fin 4096 := ⟨t.val % 16 * 256 + i.val, by omega⟩

end Cert.KernelIdeal.Diff

end
-- ==== Proof.DiffArray.lean ====
/-
  What the differential attention leaves in its output array: a grid point's blocks as parts of the argument arrays, what
  the point computes of them, and the array the points leave together.
-/
module

public import proofs.«01_k».proof.Proof.DiffPass
public import proofs.«01_k».proof.Proof.DiffMath
public import proofs.«01_k».proof.Proof.DiffGrid
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.Attention
open scoped BigOperators

/-- The scores of the kernel's wide query block are the scores of the two maps. -/
theorem score_lo (K : ℕ → Fin 128 → ℝ) (q : Fin 128 → Fin 256 → ℝ) (i : Fin 256) :
    score K (wide q) (lo i) = mapScore K (fun d => q d i) 0 := by
  funext k
  unfold score mapScore
  refine (Fin.sum_univ_add (a := 64) (b := 64) (fun d : Fin (64 + 64) => K k d * wide q d (lo i))).trans ?_
  have h₁ : ∀ d : Fin 64, wide q (Fin.castAdd 64 d) (lo i) = q ⟨0 * 64 + d.val, by omega⟩ i := fun d => by
    unfold wide
    rw [dif_pos (show (lo i).val < 256 from i.isLt), if_pos (show (Fin.castAdd 64 d).val < 64 from d.isLt)]
    exact congrArg (fun d => q d i) (Fin.ext (by simp))
  have h₂ : ∀ d : Fin 64, wide q (Fin.natAdd 64 d) (lo i) = 0 := fun d => by
    unfold wide
    rw [dif_pos (show (lo i).val < 256 from i.isLt), if_neg (show ¬ (Fin.natAdd 64 d).val < 64 from by simp)]
  simp only [h₁, h₂, mul_zero, Finset.sum_const_zero, add_zero]
  refine Finset.sum_congr rfl fun d _ => ?_
  rw [mul_comm]
  exact congrArg (fun x => _ * K k x) (Fin.ext (by simp))

theorem score_hi (K : ℕ → Fin 128 → ℝ) (q : Fin 128 → Fin 256 → ℝ) (i : Fin 256) :
    score K (wide q) (hi i) = mapScore K (fun d => q d i) 1 := by
  funext k
  unfold score mapScore
  refine (Fin.sum_univ_add (a := 64) (b := 64) (fun d : Fin (64 + 64) => K k d * wide q d (hi i))).trans ?_
  have hi256 : ¬ (hi i).val < 256 := by simp
  have h₁ : ∀ d : Fin 64, wide q (Fin.castAdd 64 d) (hi i) = 0 := fun d => by
    unfold wide
    rw [dif_neg hi256, if_pos (show (Fin.castAdd 64 d).val < 64 from d.isLt)]
  have h₂ : ∀ d : Fin 64, wide q (Fin.natAdd 64 d) (hi i) = q ⟨1 * 64 + d.val, by omega⟩ i := fun d => by
    unfold wide
    rw [dif_neg hi256, if_neg (show ¬ (Fin.natAdd 64 d).val < 64 from by simp)]
    exact congrArg₂ q (Fin.ext (by simp [Nat.add_comm])) (Fin.ext (by simp))
  simp only [h₁, h₂, mul_zero, Finset.sum_const_zero, zero_add]
  refine Finset.sum_congr rfl fun d _ => ?_
  rw [mul_comm]
  exact congrArg (fun x => _ * K k x) (Fin.ext (by simp [Nat.add_comm]))

theorem quot₁_apply (L : Vec Ideal S1x512 .f32) (A : Vec Ideal S128x256 .f32) (e : Fin 128) (i : Fin 256) :
    k0_pay24 L A (ix2 e i) = Ideal.div (A (ix2 e i)) (L (ix2 0 (lo i))) := by pointwise [k0_pay24, lo]

theorem quot₂_apply (L : Vec Ideal S1x512 .f32) (A : Vec Ideal S128x256 .f32) (e : Fin 128) (i : Fin 256) :
    k0_pay25 L A (ix2 e i) = Ideal.div (A (ix2 e i)) (L (ix2 0 (hi i))) := by pointwise [k0_pay25, hi]

theorem lam_apply (x0 x1 x2 x3 : Vec Ideal S1x64 .f32) :
    k0_pay23 x0 x1 x2 x3 (ix2 0 0) = lamOf (fun d => x0 (ix2 0 d)) (fun d => x1 (ix2 0 d)) (fun d => x2 (ix2 0 d)) (fun d => x3 (ix2 0 d)) := by
  pointwise [k0_pay23, lamOf]

theorem closing_apply (a : Vec Ideal S1x1 .f32) (B C : Vec Ideal S128x256 .f32) (g : Vec Ideal S128x1 .f32) (e : Fin 128) (i : Fin 256) :
    k0_pay1 a B C g (ix4 0 0 e i) = closed (fun e => B (ix2 e i) - a (ix2 0 0) * C (ix2 e i)) (fun e => g (ix2 e 0)) e := by
  pointwise [k0_pay1, closed]

/-- The closing formula of what seventeen passes leave. -/
theorem closing_real (x0 x1 x2 x3 : Vec Ideal S1x64 .f32) (x4 : Vec Ideal S128x1 .f32) (K V : ℕ → Fin 128 → ℝ)
    (q : Fin 128 → Fin 256 → ℝ) (l : ℝ)
    (hl : lamOf (fun d => x0 (ix2 0 d)) (fun d => x1 (ix2 0 d)) (fun d => x2 (ix2 0 d)) (fun d => x3 (ix2 0 d)) = ((l : ℝ) : EReal))
    (M L : Vec Ideal S1x512 .f32) (A₁ A₂ : Vec Ideal S128x256 .f32) (h : Carried K V (wide q) 17 M L A₁ A₂) (e : Fin 128) (i : Fin 256) :
    k0_pay1 (k0_pay23 x0 x1 x2 x3) (k0_pay24 L A₁) (k0_pay25 L A₂) x4 (ix4 0 0 e i)
      = closed (fun e => ((attended K V (fun d => q d i) l e : ℝ) : EReal)) (fun e => x4 (ix2 e 0)) e := by
  obtain ⟨μ, -, hL, h₁, h₂⟩ := h
  rw [closing_apply]
  refine congrArg (fun o => closed o _ e) (funext fun e => ?_)
  rw [lam_apply, hl, quot₁_apply, quot₂_apply, hL, hL, h₁, h₂, Online.weighted_quotient _ _ _ _ (by decide),
    Online.weighted_quotient _ _ _ _ (by decide), score_lo, score_hi, ← EReal.coe_mul, ← EReal.coe_sub]
  rfl

variable (m : (ℓ : Loc nD τ sig) → Buf (Elt Ideal) ℓ) (c : Dev nD) (t : Fin cfg0.N)

theorem blk0 (d : Fin 64) : iblk m c 0 t (ix2 0 d : S1x64.Idx) = m ((c : Thread nD τ).loc main_arg2) (ix2 0 d) := by
  have h : iblk m c 0 t (ix2 0 d : S1x64.Idx) = V m c main_v16 (ix2 0 d) := by blk_ext [iblk, idx t]
  rw [h]
  entry_read
  pointwise

theorem blk1 (d : Fin 64) : iblk m c 1 t (ix2 0 d : S1x64.Idx) = m ((c : Thread nD τ).loc main_arg3) (ix2 0 d) := by
  have h : iblk m c 1 t (ix2 0 d : S1x64.Idx) = V m c main_v18 (ix2 0 d) := by blk_ext [iblk, idx t]
  rw [h]
  entry_read
  pointwise

theorem blk2 (d : Fin 64) : iblk m c 2 t (ix2 0 d : S1x64.Idx) = m ((c : Thread nD τ).loc main_arg4) (ix2 0 d) := by
  have h : iblk m c 2 t (ix2 0 d : S1x64.Idx) = V m c main_v20 (ix2 0 d) := by blk_ext [iblk, idx t]
  rw [h]
  entry_read
  pointwise

theorem blk3 (d : Fin 64) : iblk m c 3 t (ix2 0 d : S1x64.Idx) = m ((c : Thread nD τ).loc main_arg5) (ix2 0 d) := by
  have h : iblk m c 3 t (ix2 0 d : S1x64.Idx) = V m c main_v22 (ix2 0 d) := by blk_ext [iblk, idx t]
  rw [h]
  entry_read
  pointwise

theorem blk4 (d : Fin 128) : iblk m c 4 t (ix2 d 0 : S128x1.Idx) = m ((c : Thread nD τ).loc main_arg6) (ix2 0 d) := by
  have h : iblk m c 4 t (ix2 d 0 : S128x1.Idx) = V m c main_v24 (ix2 d 0) := by blk_ext [iblk, idx t]
  rw [h]
  entry_read
  pointwise

theorem emb_eq (e : Fin 128) (i : Fin 256) :
    ((cfg0.win 8).blk t).view.emb (ix4 0 0 e i : S1x1x128x256.Idx) = ix4 (batch t) (head t) e (token t i) := by
  blk_ext [iblk, V, idx t]

theorem pos7 (a : Fin 5) : win0_7.index t a = (![t.val / 128, t.val / 16 % 8, 0, 0, 0] : Fin 5 → ℕ) a := congrFun (idx t).2.2.2.2.2.2.2.1 a

theorem emb7 (k : Fin 17) (e : Fin 128) (u : Fin 256) :
    (win0_7.rect t).emb (ix5 0 0 k e u : S1x1x17x128x256.Idx) = (ix5 (batch t) (head t) k e u : S8x8x17x128x256.Idx) := by
  funext a; apply Fin.ext
  refine (Pipeline.Window.rect_emb_val win0_7 t (ix5 0 0 k e u : S1x1x17x128x256.Idx) a rfl).trans ?_
  rw [pos7]
  fin_cases a
  · show t.val / 128 * 1 + 0 = t.val / 128
    omega
  · show t.val / 16 % 8 * 1 + 0 = t.val / 16 % 8
    omega
  · show 0 * 17 + k.val = k.val
    omega
  · show 0 * 128 + e.val = e.val
    omega
  · show 0 * 256 + u.val = u.val
    omega
/-- A read of the values' block, whatever the arrays hold. -/
theorem read7 (f : ∀ b : Ref sig .tc, Buf (Elt Ideal) ((c : Thread nD τ).loc b)) (k : Fin 17) (e : Fin 128) (u : Fin 256) :
    ((cfg0.win 7).blk t).view.read (Elt Ideal) (f (Pipeline.arrRef spec0 7)) (ix5 0 0 k e u : S1x1x17x128x256.Idx)
      = f main_v14 (ix5 (batch t) (head t) k e u) :=
  congrArg (f main_v14) (emb7 t k e u)

section Real

variable (px pc : ℕ → ℕ → ℕ → ℝ)
  (hpx : ∀ (b : Fin 8) (k : Fin 4096) (l : Fin 3072), m ((c : Thread nD τ).loc main_arg0) (ix3 b k l) = ((px b k l : ℝ) : EReal))
  (hpc : ∀ (b : Fin 8) (k : Fin 256) (l : Fin 3072), m ((c : Thread nD τ).loc main_arg1) (ix3 b k l) = ((pc b k l : ℝ) : EReal))

include hpx in
/-- The query block, its lanes down and its tokens across. -/
theorem blk5 (d : Fin 128) (i : Fin 256) : iblk m c 5 t (ix4 0 0 d i : S1x1x128x256.Idx)
    = ((px (batch t) (token t i) (head t * 128 + d.val) : ℝ) : EReal) := by
  have h : iblk m c 5 t (ix4 0 0 d i : S1x1x128x256.Idx) = V m c main_v2 (ix4 (batch t) (head t) d (token t i)) := by blk_ext [iblk, idx t]
  have h' : V m c main_v2 (ix4 (batch t) (head t) d (token t i))
      = m ((c : Thread nD τ).loc main_arg0) (ix3 (batch t) (token t i) ⟨(head t).val * 128 + d.val, by omega⟩) := by
    entry_read
    pointwise
  exact h.trans (h'.trans (hpx ..))

include hpx hpc in
/-- The head's keys. -/
theorem blk6 (k : Fin 4352) (d : Fin 128) : iblk m c 6 t (ix4 0 0 k d : S1x1x4352x128.Idx)
    = ((rowsOf px pc (batch t) (1024 + (head t).val * 128) k d : ℝ) : EReal) := by
  have h : iblk m c 6 t (ix4 0 0 k d : S1x1x4352x128.Idx) = V m c main_v9 (ix4 (batch t) (head t) k d) := by blk_ext [iblk, idx t]
  have h' : V m c main_v9 (ix4 (batch t) (head t) k d) = if hk : k.val < 4096 then
        m ((c : Thread nD τ).loc main_arg0) (ix3 (batch t) ⟨k.val, hk⟩ ⟨1024 + ((head t).val * 128 + d.val), by omega⟩)
      else m ((c : Thread nD τ).loc main_arg1) (ix3 (batch t) ⟨k.val - 4096, by omega⟩ ⟨1024 + ((head t).val * 128 + d.val), by omega⟩) := by
    entry_read
    pointwise
  refine h.trans (h'.trans ?_)
  unfold rowsOf
  split_ifs <;> simp only [hpx, hpc, Nat.add_assoc]

include hpx hpc in
/-- The head's values, 17 tiles of 256 keys, keys across. -/
theorem blk7 (k : Fin 17) (e : Fin 128) (u : Fin 256) : iblk m c 7 t (ix5 0 0 k e u : S1x1x17x128x256.Idx)
    = ((rowsOf px pc (batch t) (2048 + (head t).val * 128) (256 * k.val + u.val) e : ℝ) : EReal) := by
  have h : iblk m c 7 t (ix5 0 0 k e u : S1x1x17x128x256.Idx) = V m c main_v14 (ix5 (batch t) (head t) k e u) := by
    unfold iblk
    exact read7 c t (V m c) k e u
  have h' : V m c main_v14 (ix5 (batch t) (head t) k e u) = if hk : k.val * 256 + u.val < 4096 then
        m ((c : Thread nD τ).loc main_arg0) (ix3 (batch t) ⟨k.val * 256 + u.val, hk⟩ ⟨2048 + ((head t).val * 128 + e.val), by omega⟩)
      else m ((c : Thread nD τ).loc main_arg1) (ix3 (batch t) ⟨k.val * 256 + u.val - 4096, by omega⟩ ⟨2048 + ((head t).val * 128 + e.val), by omega⟩) := by
    entry_read
    pointwise
  refine h.trans (h'.trans ?_)
  unfold rowsOf
  rw [Nat.mul_comm 256]
  split_ifs <;> simp only [hpx, hpc, Nat.add_assoc]

/-- The whole result, on real queries, keys and values and a real λ. -/
def result (l : ℝ) (b h : Fin 8) (e : Fin 128) (i : Fin 4096) : EReal :=
  closed (fun e => ((attended (rowsOf px pc b (1024 + h.val * 128)) (rowsOf px pc b (2048 + h.val * 128))
      (fun d => px b i (h.val * 128 + d.val)) l e : ℝ) : EReal))
    (fun e => m ((c : Thread nD τ).loc main_arg6) (ix2 0 e)) e

variable (l : ℝ)
  (hl : lamOf (fun d => m ((c : Thread nD τ).loc main_arg2) (ix2 0 d)) (fun d => m ((c : Thread nD τ).loc main_arg3) (ix2 0 d))
    (fun d => m ((c : Thread nD τ).loc main_arg4) (ix2 0 d)) (fun d => m ((c : Thread nD τ).loc main_arg5) (ix2 0 d)) = ((l : ℝ) : EReal))

include hpx hpc hl in
/-- What a grid point leaves in the output's buffer is its block of `result`. -/
theorem point (e : Fin 128) (i : Fin 256) :
    outsAt0 m c t (ix4 0 0 e i : S1x1x128x256.Idx) = result m c px pc l (batch t) (head t) e (token t i) := by
  obtain ⟨M, L, A₁, A₂, hP, hout⟩ := out_of_kept c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) scM0_2 (Memref.isWhole_whole _) scM0_3 (Memref.isWhole_whole _)
    scM0_4 (Memref.isWhole_whole _)
    (iblk m c 0 t) (iblk m c 1 t) (iblk m c 2 t) (iblk m c 3 t) (iblk m c 4 t) (iblk m c 5 t) (iblk m c 6 t) (iblk m c 7 t)
    (Carried (rowsOf px pc (batch t) (1024 + (head t).val * 128)) (rowsOf px pc (batch t) (2048 + (head t).val * 128))
      (wide fun d i => px (batch t) (token t i) ((head t).val * 128 + d.val)))
    (carried_kept _ _ _ _ _ _ (blk6 m c t px pc hpx hpc) (blk7 m c t px pc hpx hpc)
      (query_read _ _ _ (blk5 m c t px hpx)))
    (carried_zero _ _ _)
  refine (congrFun hout (ix4 0 0 e i)).trans ?_
  refine (closing_real _ _ _ _ _ _ _ _ l ?_ M L A₁ A₂ hP e i).trans ?_
  · simp only [blk0 m c t, blk1 m c t, blk2 m c t, blk3 m c t]
    exact hl
  · unfold result
    simp only [blk4 m c t]

include hpx hpc hl in
/-- After the run the output array is `result`, index by index. -/
theorem final : (dats m 0 c).arrAt 8 cfg0.N = fun i : S8x8x128x4096.Idx => result m c px pc l (i 0) (i 1) (i 2) (i 3) := by
  refine (dats m 0 c).arrAt_eq_of_covers 8 _ (by decide +kernel) fun t hf y => ?_
  blk_simp
  rw [after0_8]
  idx_vars y
  obtain rfl : y0 = 0 := Subsingleton.elim _ _
  obtain rfl : y1 = 0 := Subsingleton.elim _ _
  refine (point m c t px pc hpx hpc l hl y2 y3).trans ?_
  have h := emb_eq t y2 y3
  exact (congrArg (fun i : S8x8x128x4096.Idx => result m c px pc l (i 0) (i 1) (i 2) (i 3)) h).symm

end Real

end Cert.KernelIdeal.Diff

end
-- ==== Proof.DiffReference.lean ====
/-
  The reference of the differential attention: its whole term, stage by stage, at one index.
-/
module

public import proofs.«01_k».proof.Proof.DiffMath
public import proofs.«01_k».proof.Proof.Gen.ReferenceIdeal.Run

@[expose] public section

set_option maxRecDepth 16384
set_option maxHeartbeats 1000000

noncomputable section

open Idealize.ShloMosaic Idealize.ShloMosaic.TcCoe Idealize.SL.Sem

namespace Cert.ReferenceIdeal.Diff

open Cert.ReferenceIdeal Cert.ReferenceIdeal.Gen Cert.ReferenceIdeal.Value
open scoped BigOperators

variable (m : (ℓ : Loc nD τ sig) → Buf (Elt Ideal) ℓ) (c : Dev nD)

/-- The queries by head, map and lane. -/
def queries : FVec Ideal S8x4096x8x2x64 .f32 :=
  shapeCast _ (extractStridedSlice S8x4096x1024 ![0, 0, 0] (extf .f32 (m ((c : Thread nD τ).loc main_arg0)) bitsLt_bf16_f32)
    slices_S8x4096x3072_S8x4096x1024_0_0_0) shapeCasts_S8x4096x1024_S8x4096x8x2x64

/-- The keys: the tokens' and then the context's. -/
def keyRows : FVec Ideal S8x4352x1024 .f32 :=
  concatenate S8x4352x1024 1
    [⟨S8x4096x1024, extractStridedSlice S8x4096x1024 ![0, 0, 1024] (extf .f32 (m ((c : Thread nD τ).loc main_arg0)) bitsLt_bf16_f32)
        slices_S8x4096x3072_S8x4096x1024_0_0_1024⟩,
     ⟨S8x256x1024, extractStridedSlice S8x256x1024 ![0, 0, 1024] (extf .f32 (m ((c : Thread nD τ).loc main_arg1)) bitsLt_bf16_f32)
        slices_S8x256x3072_S8x256x1024_0_0_1024⟩] concatenates_S8x4096x1024_S8x256x1024_S8x4352x1024_d1
def keys : FVec Ideal S8x4352x8x2x64 .f32 := shapeCast _ (keyRows m c) shapeCasts_S8x4352x1024_S8x4352x8x2x64

/-- The values, likewise. -/
def valueRows : FVec Ideal S8x4352x1024 .f32 :=
  concatenate S8x4352x1024 1
    [⟨S8x4096x1024, extractStridedSlice S8x4096x1024 ![0, 0, 2048] (extf .f32 (m ((c : Thread nD τ).loc main_arg0)) bitsLt_bf16_f32)
        slices_S8x4096x3072_S8x4096x1024_0_0_2048⟩,
     ⟨S8x256x1024, extractStridedSlice S8x256x1024 ![0, 0, 2048] (extf .f32 (m ((c : Thread nD τ).loc main_arg1)) bitsLt_bf16_f32)
        slices_S8x256x3072_S8x256x1024_0_0_2048⟩] concatenates_S8x4096x1024_S8x256x1024_S8x4352x1024_d1
def values : FVec Ideal S8x4352x8x128 .f32 := shapeCast _ (valueRows m c) shapeCasts_S8x4352x1024_S8x4352x8x128

/-- The scores of both maps. -/
def scores : FVec Ideal S8x8x2x4096x4352 .f32 :=
  Host.dotGeneral dot_S8x4096x8x2x64_S8x4352x8x2x64_S8x8x2x4096x4352_4_4_1_1_023_023 none (queries m c) (keys m c)

/-- Their maximum over the keys. -/
def top (s : FVec Ideal S8x8x2x4096x4352 .f32) : FVec Ideal S8x8x2x4096 .f32 :=
  maximumf (broadcastInDim S8x8x2x4096 ![] bcast_S_S8x8x2x4096 (constant S_ .f32 0xFF800000#32))
    (Host.reduce FloatOps.maximumf s (constant S_ .f32 0xFF800000#32) reducesTo_S8x8x2x4096x4352_S8x8x2x4096_d4 h_S_)

/-- A number per query, repeated along the keys. -/
def along (x : FVec Ideal S8x8x2x4096 .f32) : FVec Ideal S8x8x2x4096x4352 .f32 :=
  broadcastInDim S8x8x2x4096x4352 ![0, 1, 2, 3, 4] bcast_S8x8x2x4096x1_S8x8x2x4096x4352_0_1_2_3_4
    (broadcastInDim S8x8x2x4096x1 ![0, 1, 2, 3] bcast_S8x8x2x4096_S8x8x2x4096x1_0_1_2_3 x)

/-- The exponentials of the scores less their maximum. -/
def weights (s : FVec Ideal S8x8x2x4096x4352 .f32) : FVec Ideal S8x8x2x4096x4352 .f32 := Host.exp (subf s (along (top s)))

/-- The softmax over the keys, of the exponentials. -/
def soft (w : FVec Ideal S8x8x2x4096x4352 .f32) : FVec Ideal S8x8x2x4096x4352 .f32 :=
  Host.divf w (along (Host.reduceAdd w (constant S_ .f32 0x00000000#32) reducesTo_S8x8x2x4096x4352_S8x8x2x4096_d4 h_S_))

/-- The scalar product of two λ vectors. -/
def lamDot (a b : FVec Ideal S1x64 .f32) : FVec Ideal S_ .f32 :=
  Host.reduceAdd (mulf (shapeCast S64 a shapeCasts_S1x64_S64) (shapeCast S64 b shapeCasts_S1x64_S64)) (constant S_ .f32 0x00000000#32)
    reducesTo_S64_S_d0 h_S_

/-- λ. -/
def lam : FVec Ideal S_ .f32 :=
  addf (subf (Host.exp (lamDot (m ((c : Thread nD τ).loc main_arg2)) (m ((c : Thread nD τ).loc main_arg3))))
    (Host.exp (lamDot (m ((c : Thread nD τ).loc main_arg4)) (m ((c : Thread nD τ).loc main_arg5))))) (constant S_ .f32 0x3EB60549#32)

/-- The first map's softmax less λ times the second's. -/
def mixed (p : FVec Ideal S8x8x2x4096x4352 .f32) (l : FVec Ideal S_ .f32) : FVec Ideal S8x8x4096x4352 .f32 :=
  subf (shapeCast _ (extractStridedSlice S8x8x1x4096x4352 ![0, 0, 0, 0, 0] p slices_S8x8x2x4096x4352_S8x8x1x4096x4352_0_0_0_0_0)
      shapeCasts_S8x8x1x4096x4352_S8x8x4096x4352)
    (mulf (broadcastInDim S8x8x4096x4352 ![] bcast_S_S8x8x4096x4352 l)
      (shapeCast _ (extractStridedSlice S8x8x1x4096x4352 ![0, 0, 1, 0, 0] p slices_S8x8x2x4096x4352_S8x8x1x4096x4352_0_0_1_0_0)
        shapeCasts_S8x8x1x4096x4352_S8x8x4096x4352))

/-- The attention's output before the normalisation. -/
def attn : FVec Ideal S8x8x4096x128 .f32 :=
  Host.dotGeneral dot_S8x8x4096x4352_S8x4352x8x128_S8x8x4096x128_3_1_2_3_01_02 none
    (mixed (soft (weights (scores m c))) (lam m c)) (values m c)

/-- The reciprocal root mean square of a row, repeated along it. -/
def invRms (o : FVec Ideal S8x8x4096x128 .f32) : FVec Ideal S8x8x4096x128 .f32 :=
  broadcastInDim S8x8x4096x128 ![0, 1, 2, 3] bcast_S8x8x4096x1_S8x8x4096x128_0_1_2_3
    (Host.rsqrt (addf (Host.divf (broadcastInDim S8x8x4096x1 ![0, 1, 2] bcast_S8x8x4096_S8x8x4096x1_0_1_2
        (Host.reduceAdd (mulf o o) (constant S_ .f32 0x00000000#32) reducesTo_S8x8x4096x128_S8x8x4096_d3 h_S_))
      (broadcastInDim S8x8x4096x1 ![] bcast_S_S8x8x4096x1 (constant S_ .f32 0x43000000#32)))
      (broadcastInDim S8x8x4096x1 ![] bcast_S_S8x8x4096x1 (constant S_ .f32 0x358637BD#32))))

/-- The gain, repeated along the rows. -/
def gain : FVec Ideal S8x8x4096x128 .f32 :=
  broadcastInDim S8x8x4096x128 ![0, 1, 2, 3] bcast_S1x1x1x128_S8x8x4096x128_0_1_2_3
    (broadcastInDim S1x1x1x128 ![3] bcast_S128_S1x1x1x128_3 (shapeCast S128 (m ((c : Thread nD τ).loc main_arg6)) shapeCasts_S1x128_S128))

/-- The normalised rows, their lanes moved before the tokens. -/
def normed (o g : FVec Ideal S8x8x4096x128 .f32) : FVec Ideal S8x8x128x4096 .bf16 :=
  truncf .bf16 (transpose S8x8x128x4096 [0, 1, 3, 2]
    (mulf (mulf (mulf o (invRms o)) g) (broadcastInDim S8x8x4096x128 ![] bcast_S_S8x8x4096x128 (constant S_ .f32 0x3F24FD5C#32)))
    transposes_S8x8x4096x128_S8x8x128x4096_0_1_3_2) bitsLt_bf16_f32

/-- The reference's result is these stages, one after another. -/
theorem stages : res_main_v62 (F := Ideal) m c = normed (attn m c) (gain m c) := by
  unfold res_main_v62 normed invRms attn mixed soft weights along top scores lam lamDot queries keys keyRows values valueRows gain
  with_reducible rfl

theorem scores_apply (b h : Fin 8) (x : Fin 2) (i : Fin 4096) (k : Fin 4352) :
    scores m c (ix5 b h x i k) = ∑ d : Fin 64, queries m c (ix5 b i h x d) * keys m c (ix5 b k h x d) := by
  pointwise [scores]

/-- The maximum of reals along an axis, taken from −∞, is a real, also after the reference's comparison with −∞. -/
theorem reduce_real {S T : Shape} {dims : List (Fin S.rank)} (s : FVec Ideal S .f32) (hs : ∀ i, ∃ r : ℝ, s i = r) (h : S.ReducesTo dims T)
    (hu : 0 < S_.numel) {at_ : Fin S_.rank → Fin T.rank} (hb : S_.BroadcastsInDim T at_) (j : T.Idx) (i : S.Idx) (hi : h.drop i = j) :
    ∃ r : ℝ, maximumf (broadcastInDim T at_ hb (constant S_ .f32 0xFF800000#32))
      (Host.reduce FloatOps.maximumf s (constant S_ .f32 0xFF800000#32) h hu) j = (r : EReal) := by
  have hr : ∃ r : ℝ, Host.reduce FloatOps.maximumf s (constant S_ .f32 0xFF800000#32) h hu j = (r : EReal) := by
    rw [Host.reduce_eq_fold]
    exact Online.fold_real_on s _ ⟨i, Finset.mem_filter.mpr ⟨Finset.mem_univ _, hi⟩⟩ hs
  obtain ⟨r, hr⟩ := hr
  have e : maximumf (broadcastInDim T at_ hb (constant S_ .f32 0xFF800000#32))
      (Host.reduce FloatOps.maximumf s (constant S_ .f32 0xFF800000#32) h hu) j = max (Ideal.ofBits .f32 0xFF800000#32)
        (Host.reduce FloatOps.maximumf s (constant S_ .f32 0xFF800000#32) h hu j) := rfl
  exact ⟨r, by rw [e, hr, Online.start_eq, max_eq_right bot_le]⟩

theorem drop_eq (b h : Fin 8) (x : Fin 2) (i : Fin 4096) (k : Fin 4352) :
    reducesTo_S8x8x2x4096x4352_S8x8x2x4096_d4.drop (ix5 b h x i k : S8x8x2x4096x4352.Idx) = ix4 b h x i := by
  funext a
  fin_cases a <;> rfl

/-- The greatest of real scores is a real. -/
theorem top_real (s : FVec Ideal S8x8x2x4096x4352 .f32) (hs : ∀ i, ∃ r : ℝ, s i = r) (b h : Fin 8) (x : Fin 2) (i : Fin 4096) :
    ∃ r : ℝ, top s (ix4 b h x i) = (r : EReal) := by
  unfold top
  exact reduce_real s hs _ _ _ _ (ix5 b h x i 0) (drop_eq b h x i 0)

theorem along_apply (y : FVec Ideal S8x8x2x4096 .f32) (b h : Fin 8) (x : Fin 2) (i : Fin 4096) (k : Fin 4352) :
    along y (ix5 b h x i k) = y (ix4 b h x i) := by pointwise [along]

theorem weights_apply (s : FVec Ideal S8x8x2x4096x4352 .f32) (b h : Fin 8) (x : Fin 2) (i : Fin 4096) (k : Fin 4352) :
    weights s (ix5 b h x i k) = Ideal.exp (s (ix5 b h x i k) - top s (ix4 b h x i)) := by
  pointwise [weights, along]

theorem soft_apply (w : FVec Ideal S8x8x2x4096x4352 .f32) (b h : Fin 8) (x : Fin 2) (i : Fin 4096) (k : Fin 4352) :
    soft w (ix5 b h x i k) = Ideal.div (w (ix5 b h x i k)) (∑ l : Fin 4352, w (ix5 b h x i l)) := by
  pointwise [soft, along]

theorem lam_apply (i : S_.Idx) : lam m c i
    = Attention.lamOf (fun d => m ((c : Thread nD τ).loc main_arg2) (ix2 0 d)) (fun d => m ((c : Thread nD τ).loc main_arg3) (ix2 0 d))
      (fun d => m ((c : Thread nD τ).loc main_arg4) (ix2 0 d)) (fun d => m ((c : Thread nD τ).loc main_arg5) (ix2 0 d)) := by
  pointwise [lam, lamDot, Attention.lamOf]

theorem mixed_apply (p : FVec Ideal S8x8x2x4096x4352 .f32) (l : FVec Ideal S_ .f32) (b h : Fin 8) (i : Fin 4096) (k : Fin 4352) :
    mixed p l (ix4 b h i k) = p (ix5 b h 0 i k) - l ix0 * p (ix5 b h 1 i k) := by pointwise [mixed]

theorem attn_apply (b h : Fin 8) (i : Fin 4096) (e : Fin 128) :
    attn m c (ix4 b h i e)
      = ∑ k : Fin 4352, mixed (soft (weights (scores m c))) (lam m c) (ix4 b h i k) * values m c (ix4 b k h e) := by
  pointwise [attn]

theorem invRms_apply (o : FVec Ideal S8x8x4096x128 .f32) (b h : Fin 8) (i : Fin 4096) (e : Fin 128) :
    invRms o (ix4 b h i e) = Ideal.rsqrt (Ideal.div (∑ x : Fin 128, o (ix4 b h i x) * o (ix4 b h i x))
      (Ideal.ofBits .f32 0x43000000#32) + Ideal.ofBits .f32 0x358637BD#32) := by pointwise [invRms]

theorem gain_apply (b h : Fin 8) (i : Fin 4096) (e : Fin 128) :
    gain m c (ix4 b h i e) = m ((c : Thread nD τ).loc main_arg6) (ix2 0 e) := by pointwise [gain]

theorem normed_apply (o g : FVec Ideal S8x8x4096x128 .f32) (b h : Fin 8) (i : Fin 4096) (e : Fin 128) :
    normed o g (ix4 b h e i) = Attention.closed (fun e => o (ix4 b h i e)) (fun e => g (ix4 b h i e)) e := by
  pointwise [normed, invRms, Attention.closed]

end Cert.ReferenceIdeal.Diff

end
-- ==== Proof.DiffReferenceValue.lean ====
/-
  The reference of the differential attention on real queries, keys and values: `Attention.closed` of `Attention.attended`.
-/
module

public import proofs.«01_k».proof.Proof.DiffReference

@[expose] public section

set_option maxRecDepth 16384

noncomputable section

open Idealize.ShloMosaic Idealize.ShloMosaic.TcCoe Idealize.SL.Sem

namespace Cert.ReferenceIdeal.Diff

open Cert.ReferenceIdeal Cert.ReferenceIdeal.Gen Cert.ReferenceIdeal.Value Cert.Attention
open scoped BigOperators

variable (m : (ℓ : Loc nD τ sig) → Buf (Elt Ideal) ℓ) (c : Dev nD) (px pc : ℕ → ℕ → ℕ → ℝ)
  (hpx : ∀ (b : Fin 8) (k : Fin 4096) (l : Fin 3072), m ((c : Thread nD τ).loc main_arg0) (ix3 b k l) = ((px b k l : ℝ) : EReal))
  (hpc : ∀ (b : Fin 8) (k : Fin 256) (l : Fin 3072), m ((c : Thread nD τ).loc main_arg1) (ix3 b k l) = ((pc b k l : ℝ) : EReal))

include hpx in
theorem queries_real (b : Fin 8) (i : Fin 4096) (h : Fin 8) (x : Fin 2) (d : Fin 64) :
    queries m c (ix5 b i h x d) = ((px b i (h.val * 128 + (x.val * 64 + d.val)) : ℝ) : EReal) := by
  have e : queries m c (ix5 b i h x d)
      = m ((c : Thread nD τ).loc main_arg0) (ix3 b i ⟨h.val * 128 + x.val * 64 + d.val, by omega⟩) := by pointwise [queries]
  rw [e, hpx]
  simp only [Nat.add_assoc]

include hpx hpc in
theorem keys_real (b : Fin 8) (k : Fin 4352) (h : Fin 8) (x : Fin 2) (d : Fin 64) :
    keys m c (ix5 b k h x d) = ((rowsOf px pc b (1024 + h.val * 128) k ⟨x.val * 64 + d.val, by omega⟩ : ℝ) : EReal) := by
  have e : keys m c (ix5 b k h x d) = if hk : k.val < 4096 then
        m ((c : Thread nD τ).loc main_arg0) (ix3 b ⟨k.val, hk⟩ ⟨1024 + (h.val * 128 + x.val * 64 + d.val), by omega⟩)
      else m ((c : Thread nD τ).loc main_arg1) (ix3 b ⟨k.val - 4096, by omega⟩ ⟨1024 + (h.val * 128 + x.val * 64 + d.val), by omega⟩) := by
    pointwise [keys, keyRows]
  rw [e]
  unfold rowsOf
  split_ifs <;> simp only [hpx, hpc, Nat.add_assoc]

include hpx hpc in
theorem values_real (b : Fin 8) (k : Fin 4352) (h : Fin 8) (d : Fin 128) :
    values m c (ix4 b k h d) = ((rowsOf px pc b (2048 + h.val * 128) k d : ℝ) : EReal) := by
  have e : values m c (ix4 b k h d) = if hk : k.val < 4096 then
        m ((c : Thread nD τ).loc main_arg0) (ix3 b ⟨k.val, hk⟩ ⟨2048 + (h.val * 128 + d.val), by omega⟩)
      else m ((c : Thread nD τ).loc main_arg1) (ix3 b ⟨k.val - 4096, by omega⟩ ⟨2048 + (h.val * 128 + d.val), by omega⟩) := by
    pointwise [values, valueRows]
  rw [e]
  unfold rowsOf
  split_ifs <;> simp only [hpx, hpc, Nat.add_assoc]

/-- The scores of one head and query. -/
abbrev scoreOf (b h : ℕ) (i : ℕ) (x : Fin 2) (k : ℕ) : ℝ :=
  mapScore (rowsOf px pc b (1024 + h * 128)) (fun d => px b i (h * 128 + d.val)) x k

include hpx hpc in
theorem scores_real (b h : Fin 8) (x : Fin 2) (i : Fin 4096) (k : Fin 4352) :
    scores m c (ix5 b h x i k) = ((scoreOf px pc b h i x k : ℝ) : EReal) := by
  rw [scores_apply]
  unfold scoreOf mapScore
  rw [Online.coe_sum]
  refine Finset.sum_congr rfl fun d _ => ?_
  rw [queries_real m c px hpx, keys_real m c px pc hpx hpc, EReal.coe_mul]

include hpx hpc in
/-- The softmax of the scores, over the reals. -/
theorem soft_real (b h : Fin 8) (i : Fin 4096) : ∃ μ : Fin 2 → ℝ, ∀ (x : Fin 2) (k : Fin 4352),
    soft (weights (scores m c)) (ix5 b h x i k)
      = ((Real.exp (scoreOf px pc b h i x k - μ x) / ∑ l : Fin 4352, Real.exp (scoreOf px pc b h i x l - μ x) : ℝ) : EReal) := by
  have ht : ∀ x : Fin 2, ∃ r : ℝ, top (scores m c) (ix4 b h x i) = (r : EReal) := fun x => by
    refine top_real _ (fun j => ?_) b h x i
    idx_vars j
    exact ⟨_, scores_real m c px pc hpx hpc j0 j1 j2 j3 j4⟩
  choose μ hμ using ht
  have hw : ∀ (x : Fin 2) (k : Fin 4352), weights (scores m c) (ix5 b h x i k)
      = ((Real.exp (scoreOf px pc b h i x k - μ x) : ℝ) : EReal) := fun x k => by
    rw [weights_apply, hμ, scores_real m c px pc hpx hpc, ← EReal.coe_sub, Ideal.exp_coe]
  refine ⟨μ, fun x k => ?_⟩
  have hpos : 0 < ∑ l : Fin 4352, Real.exp (scoreOf px pc b h i x l - μ x) :=
    Finset.sum_pos (fun l _ => Real.exp_pos _) ⟨⟨0, by omega⟩, Finset.mem_univ _⟩
  rw [soft_apply]
  simp only [hw]
  rw [← Online.coe_sum, Ideal.div_coe hpos.ne', ← EReal.coe_mul, mul_one_div]

include hpx hpc in
/-- The attention before the normalisation, over the reals. -/
theorem attn_real (l : ℝ) (hl : lam m c ix0 = ((l : ℝ) : EReal)) (b h : Fin 8) (i : Fin 4096) (e : Fin 128) :
    attn m c (ix4 b h i e) = ((attended (rowsOf px pc b (1024 + h.val * 128)) (rowsOf px pc b (2048 + h.val * 128))
      (fun d => px b i (h.val * 128 + d.val)) l e : ℝ) : EReal) := by
  obtain ⟨μ, hs⟩ := soft_real m c px pc hpx hpc b h i
  rw [attn_apply, ← attended_eq _ _ _ _ _ μ, Online.coe_sum]
  refine Finset.sum_congr rfl fun k _ => ?_
  rw [mixed_apply, hs, hs, hl, values_real m c px pc hpx hpc, ← EReal.coe_mul, ← EReal.coe_sub, ← EReal.coe_mul]

include hpx hpc in
/-- The reference's result at one index. -/
theorem reference_eq (l : ℝ)
    (hl : lamOf (fun d => m ((c : Thread nD τ).loc main_arg2) (ix2 0 d)) (fun d => m ((c : Thread nD τ).loc main_arg3) (ix2 0 d))
      (fun d => m ((c : Thread nD τ).loc main_arg4) (ix2 0 d)) (fun d => m ((c : Thread nD τ).loc main_arg5) (ix2 0 d)) = ((l : ℝ) : EReal))
    (b h : Fin 8) (e : Fin 128) (i : Fin 4096) :
    res_main_v62 (F := Ideal) m c (ix4 b h e i)
      = closed (fun e => ((attended (rowsOf px pc b (1024 + h.val * 128)) (rowsOf px pc b (2048 + h.val * 128))
          (fun d => px b i (h.val * 128 + d.val)) l e : ℝ) : EReal))
        (fun e => m ((c : Thread nD τ).loc main_arg6) (ix2 0 e)) e := by
  rw [stages, normed_apply]
  simp only [gain_apply, attn_real m c px pc hpx hpc l ((lam_apply m c ix0).trans hl)]

end Cert.ReferenceIdeal.Diff

end
-- ==== Proof.Diff.lean ====
/-
  The differential attention: on real queries, keys, values and λ vectors kernel and reference compute the same array.
-/
module

public import proofs.«01_k».proof.Defs
public import proofs.«01_k».proof.Proof.Finite
public import proofs.«01_k».proof.Proof.DiffArray
public import proofs.«01_k».proof.Proof.DiffReferenceValue

@[expose] public section

set_option maxRecDepth 16384

noncomputable section

open Idealize.ShloMosaic Idealize.ShloMosaic.TcCoe Idealize.SL.Sem

namespace Cert.Diff

/-- Reals at the indices of a three-axis array, as a function of natural numbers. -/
theorem reals {a b n : ℕ} (x : Fin a → Fin b → Fin n → EReal) (h : ∀ i j k, ∃ r : ℝ, x i j k = r) :
    ∃ p : ℕ → ℕ → ℕ → ℝ, ∀ (i : Fin a) (j : Fin b) (k : Fin n), x i j k = ((p i j k : ℝ) : EReal) := by
  choose p hp using h
  refine ⟨fun i j k => if h : i < a ∧ j < b ∧ k < n then p ⟨i, h.1⟩ ⟨j, h.2.1⟩ ⟨k, h.2.2⟩ else 0, fun i j k => ?_⟩
  show x i j k = ((dite _ _ _ : ℝ) : EReal)
  rw [dif_pos ⟨i.isLt, j.isLt, k.isLt⟩]
  exact hp i j k

open Cert.KernelIdeal in
/-- The precondition, read on one device. -/
theorem real_of_finite [hf : Cert.Pre_finite.Facts] (m : (ℓ : Loc nD τ sig) → Buf (Elt Ideal) ℓ) (hpre : Cert.Pre_KernelIdeal_finite m) (c : Dev nD) :
    (∃ p : ℕ → ℕ → ℕ → ℝ, ∀ (b : Fin 8) (k : Fin 4096) (l : Fin 3072),
        m ((c : Thread nD τ).loc main_arg0) (ix3 b k l) = ((p b k l : ℝ) : EReal))
      ∧ (∃ p : ℕ → ℕ → ℕ → ℝ, ∀ (b : Fin 8) (k : Fin 256) (l : Fin 3072),
        m ((c : Thread nD τ).loc main_arg1) (ix3 b k l) = ((p b k l : ℝ) : EReal))
      ∧ ∃ l : ℝ, Cert.Attention.lamOf (fun d => m ((c : Thread nD τ).loc main_arg2) (ix2 0 d)) (fun d => m ((c : Thread nD τ).loc main_arg3) (ix2 0 d))
        (fun d => m ((c : Thread nD τ).loc main_arg4) (ix2 0 d)) (fun d => m ((c : Thread nD τ).loc main_arg5) (ix2 0 d)) = ((l : ℝ) : EReal) := by
  obtain ⟨h0, h1, h2, h3, h4, h5⟩ := hpre c
  refine ⟨reals _ fun i j k => Finite.real_bf16 _ _ h0 _, reals _ fun i j k => Finite.real_bf16 _ _ h1 _, ?_⟩
  exact Cert.Attention.lamOf_real _ _ _ _ (fun d => Finite.real_f32 _ _ h2 _) (fun d => Finite.real_f32 _ _ h3 _)
    (fun d => Finite.real_f32 _ _ h4 _) (fun d => Finite.real_f32 _ _ h5 _)

/-- Kernel and reference, run from agreeing arguments, leave the same array. -/
theorem algebraic [hf : Cert.Pre_finite.Facts] : Cert.algebraic_KernelIdeal_ReferenceIdeal_pre_finite := by
  pair_intro
  · run_from Cert.KernelIdeal.Gen.run_main m g
  · run_from Cert.ReferenceIdeal.Value.run m' g'
    obtain ⟨⟨px, hpx⟩, ⟨pc, hpc⟩, l, hl⟩ := real_of_finite m hpre c
    refine Eq.trans ?_ (Cert.KernelIdeal.Diff.final m c px pc hpx hpc l hl).symm
    obtain ⟨h0, h1, h2, h3, h4, h5, h6⟩ := hagree c
    funext i
    idx_vars i
    refine (Cert.ReferenceIdeal.Diff.reference_eq m' c px pc ?_ ?_ l ?_ i0 i1 i2 i3).trans ?_
    · intro b k e
      rw [h0]
      exact hpx b k e
    · intro b k e
      rw [h1]
      exact hpc b k e
    · rw [h2, h3, h4, h5]
      exact hl
    · rw [h6]
      rfl

end Cert.Diff

end
-- ==== Proof.Rows.lean ====
/-
  One row of the layer's dense half, over the extended reals: the residual behind an output projection,
  the RMS norm and its modulation, and the squared-ReLU MLP. Both the kernels' blocks and the references'
  arrays are read as these functions of a row; nothing here knows of a block, a grid or an array.

  A row is a function of its 1024 lanes; a weight is a function of two positions.
-/
module

public import Idealize.ShloMosaic.PureOps.Ideal
public import Idealize.ShloMosaic.Lib.Pointwise

@[expose] public section

noncomputable section

namespace Cert.Rows

open Idealize.ShloMosaic
open scoped BigOperators

/-- The lanes of a row: the constant the sum of squares is divided by. -/
abbrev lanes : EReal := Ideal.ofBits .f32 0x44800000#32

/-- The constant added to a mean of squares. -/
abbrev eps : EReal := Ideal.ofBits .f32 0x358637BD#32

/-- `h + gate · (y W)`: the residual stream after the output projection. -/
def projResidual (y h gate : Fin 1024 → EReal) (W : Fin 1024 → Fin 1024 → EReal) (l : Fin 1024) : EReal :=
  h l + gate l * ∑ k, y k * W k l

/-- `x / rms x · g`. -/
def rmsNorm (x g : Fin 1024 → EReal) (l : Fin 1024) : EReal :=
  x l * Ideal.rsqrt (Ideal.div (∑ k, x k * x k) lanes + eps) * g l

/-- The normed row, scaled by `1 + scale` and shifted. -/
def modulate (x g shift scale : Fin 1024 → EReal) (l : Fin 1024) : EReal :=
  rmsNorm x g l * (1 + scale l) + shift l

/-- One hidden unit of the MLP: the square of the rectified product. -/
def hiddenUnit {N : ℕ} (a : Fin 1024 → EReal) (W : Fin 1024 → Fin N → EReal) (f : Fin N) : EReal :=
  max (∑ k, a k * W k f) 0 * max (∑ k, a k * W k f) 0

/-- The MLP's output over all 4096 hidden units. -/
def mlp (a : Fin 1024 → EReal) (W₁ : Fin 1024 → Fin 4096 → EReal) (W₂ : Fin 4096 → Fin 1024 → EReal)
    (l : Fin 1024) : EReal :=
  ∑ f, hiddenUnit a W₁ f * W₂ f l

/-- The residual stream behind the projection and the MLP. -/
def block (y h gate₁ shift scale gate₂ g : Fin 1024 → EReal) (W : Fin 1024 → Fin 1024 → EReal)
    (W₁ : Fin 1024 → Fin 4096 → EReal) (W₂ : Fin 4096 → Fin 1024 → EReal) (l : Fin 1024) : EReal :=
  projResidual y h gate₁ W l + gate₂ l * mlp (modulate (projResidual y h gate₁ W) g shift scale) W₁ W₂ l

/-- A sum over 4096 hidden units taken in four runs of 1024, first to last, is the sum over all of them. -/
theorem sum_runs (f : Fin 4096 → EReal) :
    ((∑ i : Fin 1024, f ⟨i, by omega⟩ + ∑ i : Fin 1024, f ⟨1024 + i, by omega⟩)
      + ∑ i : Fin 1024, f ⟨2048 + i, by omega⟩) + ∑ i : Fin 1024, f ⟨3072 + i, by omega⟩ = ∑ i, f i := by
  rw [Fin.sum_univ_add (a := 3072) (b := 1024) f, Fin.sum_univ_add (a := 2048) (b := 1024) (fun i => f (Fin.castAdd 1024 i)),
    Fin.sum_univ_add (a := 1024) (b := 1024) (fun i => f (Fin.castAdd 1024 (Fin.castAdd 1024 i)))]
  rfl

end Cert.Rows

end
-- ==== Proof.Mlp0Block.lean ====
/-
  What one grid point of the first MLP call computes from its blocks.
-/
module

public import proofs.«01_k».proof.Proof.Gen.Kernel3Ideal.Value
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Mlp

open Cert.Kernel3Ideal Cert.Kernel3Ideal.Gen Cert.Rows
open scoped BigOperators

variable (x0 : FVec Ideal S1x512x1024 .bf16) (x1 : FVec Ideal S1x512x1024 .f32) (x2 : FVec Ideal S1x6x1024 .f32)
  (x3 : FVec Ideal S1x1024 .f32) (x4 : FVec Ideal S1024x1024 .bf16) (x5 : FVec Ideal S1024x4096 .bf16)
  (x6 : FVec Ideal S4096x1024 .bf16)

/-- Row `r` of the residual stream, from the blocks. -/
abbrev res (r : Fin 512) : Fin 1024 → EReal :=
  projResidual (fun k => x0 (ix3 0 r k)) (fun k => x1 (ix3 0 r k)) (fun k => x2 (ix3 0 2 k)) (fun k l => x4 (ix2 k l))

abbrev act (r : Fin 512) : Fin 1024 → EReal :=
  modulate (res x0 x1 x2 x4 r) (fun k => x3 (ix2 0 k)) (fun k => x2 (ix3 0 3 k)) (fun k => x2 (ix3 0 4 k))

/-- What the two named values of the body add up to: the modulated row the MLP is fed. -/
theorem act_eq (r : Fin 512) (k : Fin 1024) :
    k0_pay8 (F := Ideal) x0 x1 x2 x3 x4 x5 x6 (ix2 r k) + k0_pay7 (F := Ideal) x0 x1 x2 x3 x4 x5 x6 (ix2 0 k)
      = act x0 x1 x2 x3 x4 r k := by
  pointwise [k0_pay8, k0_pay7, k0_pay2, k0_pay3, k0_pay4]
  rfl

theorem out_eq (r : Fin 512) (l : Fin 1024) :
    out0_7 (F := Ideal) x0 x1 x2 x3 x4 x5 x6 (ix3 0 r l)
      = block (fun k => x0 (ix3 0 r k)) (fun k => x1 (ix3 0 r k)) (fun k => x2 (ix3 0 2 k)) (fun k => x2 (ix3 0 3 k))
          (fun k => x2 (ix3 0 4 k)) (fun k => x2 (ix3 0 5 k)) (fun k => x3 (ix2 0 k)) (fun k l => x4 (ix2 k l))
          (fun k f => x5 (ix2 k f)) (fun f l => x6 (ix2 f l)) l := by
  frame_out
  pointwise [k0_pay1, k0_pay2, k0_pay3, k0_pay4, k0_pay5, k0_pay6]
  simp only [act_eq, block, mlp, ← sum_runs]
  rfl

end Cert.Kernel3Ideal.Mlp

end
-- ==== Proof.Mlp0Array.lean ====
/-
  The first MLP call's blocks as parts of its argument arrays, and the array its grid points leave together.
-/
module

public import proofs.«01_k».proof.Proof.Mlp0Block
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Mlp

open Cert.Kernel3Ideal Cert.Kernel3Ideal.Gen Cert.Rows
open scoped BigOperators

variable (m : (ℓ : Loc nD τ sig) → Buf (Elt Ideal) ℓ)

/-- Which block each window shows at a grid point (8 batches of 8 row tiles). -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![t.val / 8, t.val % 8, 0] :=
  (by decide +kernel : ∀ t : Fin grid0.N, _)

variable (c : Dev nD) (t : Fin cfg0.N)

/-- The batch a grid point works in, and the token its block's row `r` is. -/
abbrev batch : Fin 8 := ⟨t.val / 8, by have := t.isLt; have : cfg0.N = 64 := N_0; omega⟩
abbrev token (r : Fin 512) : Fin 4096 := ⟨t.val % 8 * 512 + r.val, by omega⟩

theorem blk0 (r : Fin 512) (k : Fin 1024) :
    iblk m c 0 t (ix3 0 r k : S1x512x1024.Idx) = m ((c : Thread nD τ).loc main_arg0) (ix3 (batch t) (token t r) k) := by
  blk_ext [iblk, V, idx t]

theorem blk1 (r : Fin 512) (k : Fin 1024) :
    iblk m c 1 t (ix3 0 r k : S1x512x1024.Idx) = m ((c : Thread nD τ).loc main_arg1) (ix3 (batch t) (token t r) k) := by
  blk_ext [iblk, V, idx t]

theorem blk2 (j : Fin 6) (k : Fin 1024) :
    iblk m c 2 t (ix3 0 j k : S1x6x1024.Idx) = m ((c : Thread nD τ).loc main_arg2) (ix3 ⟨t.val / 8, by have := t.isLt; have : cfg0.N = 64 := N_0; omega⟩ j k) := by
  blk_ext [iblk, V, idx t]

theorem blk3 (k : Fin 1024) :
    iblk m c 3 t (ix2 0 k : S1x1024.Idx) = m ((c : Thread nD τ).loc main_arg3) (ix2 0 k) := by
  have h : iblk m c 3 t (ix2 0 k : S1x1024.Idx) = V m c main_v10 (ix2 0 k) := by blk_ext [iblk, idx t]
  rw [h]
  entry_read
  pointwise

theorem blk4 (k l : Fin 1024) :
    iblk m c 4 t (ix2 k l : S1024x1024.Idx) = m ((c : Thread nD τ).loc main_arg4) (ix3 0 k l) := by
  have h : iblk m c 4 t (ix2 k l : S1024x1024.Idx) = V m c main_v1 (ix2 k l) := by blk_ext [iblk, idx t]
  rw [h]
  entry_read
  pointwise

theorem blk5 (k : Fin 1024) (f : Fin 4096) :
    iblk m c 5 t (ix2 k f : S1024x4096.Idx) = m ((c : Thread nD τ).loc main_arg5) (ix3 0 k f) := by
  have h : iblk m c 5 t (ix2 k f : S1024x4096.Idx) = V m c main_v7 (ix2 k f) := by blk_ext [iblk, idx t]
  rw [h]
  entry_read
  pointwise

theorem blk6 (f : Fin 4096) (l : Fin 1024) :
    iblk m c 6 t (ix2 f l : S4096x1024.Idx) = m ((c : Thread nD τ).loc main_arg6) (ix3 0 f l) := by
  have h : iblk m c 6 t (ix2 f l : S4096x1024.Idx) = V m c main_v9 (ix2 f l) := by blk_ext [iblk, idx t]
  rw [h]
  entry_read
  pointwise

theorem emb_eq (r : Fin 512) (l : Fin 1024) :
    ((cfg0.win 7).blk t).view.emb (ix3 0 r l : S1x512x1024.Idx) = ix3 (batch t) (token t r) l := by
  blk_ext [iblk, V, idx t]

/-- The whole result, one row per token, as a function of the argument arrays. -/
def result (c : Dev nD) (b : Fin 8) (i : Fin 4096) (l : Fin 1024) : EReal :=
  block (fun k => m ((c : Thread nD τ).loc main_arg0) (ix3 b i k)) (fun k => m ((c : Thread nD τ).loc main_arg1) (ix3 b i k))
    (fun k => m ((c : Thread nD τ).loc main_arg2) (ix3 ⟨b.val, by omega⟩ 2 k)) (fun k => m ((c : Thread nD τ).loc main_arg2) (ix3 ⟨b.val, by omega⟩ 3 k))
    (fun k => m ((c : Thread nD τ).loc main_arg2) (ix3 ⟨b.val, by omega⟩ 4 k)) (fun k => m ((c : Thread nD τ).loc main_arg2) (ix3 ⟨b.val, by omega⟩ 5 k))
    (fun k => m ((c : Thread nD τ).loc main_arg3) (ix2 0 k)) (fun k l => m ((c : Thread nD τ).loc main_arg4) (ix3 0 k l))
    (fun k f => m ((c : Thread nD τ).loc main_arg5) (ix3 0 k f)) (fun f l => m ((c : Thread nD τ).loc main_arg6) (ix3 0 f l)) l

/-- What a grid point leaves in the output's buffer is its block of `result`. -/
theorem point (r : Fin 512) (l : Fin 1024) :
    out0_7 (F := Ideal) (iblk m c 0 t) (iblk m c 1 t) (iblk m c 2 t) (iblk m c 3 t) (iblk m c 4 t) (iblk m c 5 t) (iblk m c 6 t)
      (ix3 0 r l) = result m c (batch t) (token t r) l := by
  refine (out_eq _ _ _ _ _ _ _ r l).trans ?_
  unfold result
  simp only [blk0 m c t, blk1 m c t, blk2 m c t, blk3 m c t, blk4 m c t, blk5 m c t, blk6 m c t]

/-- After the run the output array is `result`, index by index. -/
theorem final : (dats m 0 c).arrAt 7 cfg0.N = fun i : S8x4096x1024.Idx => result m c (i 0) (i 1) (i 2) := by
  refine (dats m 0 c).arrAt_eq_of_covers 7 _ (by decide +kernel) fun t hf y => ?_
  blk_simp
  rw [after0_7]
  idx_vars y
  obtain rfl : y0 = 0 := Subsingleton.elim _ _
  refine (point m c t y1 y2).trans ?_
  have h := emb_eq t y1 y2
  exact (congrArg (fun i : S8x4096x1024.Idx => result m c (i 0) (i 1) (i 2)) h).symm

end Cert.Kernel3Ideal.Mlp

end
-- ==== Proof.DenseStages.lean ====
/-
  The stages the dense references are made of, each read at an index as a function of one row (Rows.lean).
  A reference's whole term is a composition of these five, so it is read one stage at a time.
-/
module

public import proofs.«01_k».proof.Proof.Gen.Reference3Ideal
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Dense

open Cert.Reference3Ideal Cert.Reference3Ideal.Gen Cert.Rows
open scoped BigOperators

/-- Row `j` of every batch's modulation, [8, 1, 1024]. -/
def gate (j : ℕ) (h : S9x6x1024.Slices ![0, j, 0] S8x1x1024) (mod : FVec Ideal S9x6x1024 .f32) : FVec Ideal S8x1x1024 .f32 :=
  broadcastInDim S8x1x1024 ![0, 2] bcast_S8x1024_S8x1x1024_0_2
    (shapeCast S8x1024 (extractStridedSlice S8x1x1024 ![0, j, 0] mod h) shapeCasts_S8x1x1024_S8x1024)

theorem gate_apply (j : ℕ) (h : S9x6x1024.Slices ![0, j, 0] S8x1x1024) (hj : j < 6) (mod : FVec Ideal S9x6x1024 .f32) (b : Fin 8) (k : Fin 1024) :
    gate j h mod (ix3 b 0 k) = mod (ix3 ⟨b.val, by omega⟩ ⟨j, hj⟩ k) := by
  pointwise [gate]

/-- The tokens' rows spread from one row per batch. -/
abbrev spread (x : FVec Ideal S8x1x1024 .f32) : FVec Ideal S8x4096x1024 .f32 :=
  broadcastInDim S8x4096x1024 ![0, 1, 2] bcast_S8x1x1024_S8x4096x1024_0_1_2 x

/-- The residual stream behind the output projection. -/
def stream (y : FVec Ideal S8x4096x1024 .bf16) (h : FVec Ideal S8x4096x1024 .f32) (g : FVec Ideal S8x1x1024 .f32)
    (wo : FVec Ideal S1x1024x1024 .f32) : FVec Ideal S8x4096x1024 .f32 :=
  addf h (mulf (spread g) (Host.dotGeneral dot_S8x4096x1024_S1024x1024_S8x4096x1024_2_0_01_1_n_n none
    (extf .f32 y bitsLt_bf16_f32) (shapeCast S1024x1024 wo shapeCasts_S1x1024x1024_S1024x1024)))

theorem stream_apply (y : FVec Ideal S8x4096x1024 .bf16) (h : FVec Ideal S8x4096x1024 .f32) (g : FVec Ideal S8x1x1024 .f32)
    (wo : FVec Ideal S1x1024x1024 .f32) (b : Fin 8) (i : Fin 4096) (l : Fin 1024) :
    stream y h g wo (ix3 b i l) = projResidual (fun k => y (ix3 b i k)) (fun k => h (ix3 b i k)) (fun k => g (ix3 b 0 k))
      (fun k l => wo (ix3 0 k l)) l := by
  pointwise [stream, projResidual]

/-- The RMS norm of every row, times `g`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

theorem norm_apply (x : FVec Ideal S8x4096x1024 .f32) (g : FVec Ideal S1024 .f32) (b : Fin 8) (i : Fin 4096) (l : Fin 1024) :
    norm x g (ix3 b i l) = rmsNorm (fun k => x (ix3 b i k)) (fun k => g (ix1 k)) l := by
  pointwise [norm, rmsNorm]

/-- A row of [2, 1024], as a vector. -/
def pick (j : ℕ) (h : S2x1024.Slices ![j, 0] S1x1024) (g : FVec Ideal S2x1024 .f32) : FVec Ideal S1024 .f32 :=
  shapeCast S1024 (extractStridedSlice S1x1024 ![j, 0] g h) shapeCasts_S1x1024_S1024

theorem pick_apply (j : ℕ) (h : S2x1024.Slices ![j, 0] S1x1024) (hj : j < 2) (g : FVec Ideal S2x1024 .f32) (k : Fin 1024) :
    pick j h g (ix1 k) = g (ix2 ⟨j, hj⟩ k) := by
  pointwise [pick]

/-- The normed rows, scaled by `1 + scale` and shifted. -/
def modulated (x : FVec Ideal S8x4096x1024 .f32) (shift scale : FVec Ideal S8x1x1024 .f32) : FVec Ideal S8x4096x1024 .f32 :=
  addf (mulf x (spread (addf (broadcastInDim S8x1x1024 ![] bcast_S_S8x1x1024 (constant S_ .f32 0x3F800000#32)) scale)))
    (spread shift)

theorem modulated_apply (x : FVec Ideal S8x4096x1024 .f32) (shift scale : FVec Ideal S8x1x1024 .f32) (b : Fin 8) (i : Fin 4096) (l : Fin 1024) :
    modulated x shift scale (ix3 b i l) = x (ix3 b i l) * (1 + scale (ix3 b 0 l)) + shift (ix3 b 0 l) := by
  pointwise [modulated]

/-- The MLP over every row. -/
def mlpOf (a : FVec Ideal S8x4096x1024 .f32) (w₁ : FVec Ideal S1024x4096 .f32) (w₂ : FVec Ideal S4096x1024 .f32) : FVec Ideal S8x4096x1024 .f32 :=
  let u : FVec Ideal S8x4096x4096 .f32 := maximumf (Host.dotGeneral dot_S8x4096x1024_S1024x4096_S8x4096x4096_2_0_01_1_n_n none a w₁)
    (broadcastInDim S8x4096x4096 ![] bcast_S_S8x4096x4096 (constant S_ .f32 0x00000000#32))
  Host.dotGeneral dot_S8x4096x4096_S4096x1024_S8x4096x1024_2_0_01_1_n_n none (mulf u u) w₂

theorem mlpOf_apply (a : FVec Ideal S8x4096x1024 .f32) (w₁ : FVec Ideal S1024x4096 .f32) (w₂ : FVec Ideal S4096x1024 .f32)
    (b : Fin 8) (i : Fin 4096) (l : Fin 1024) :
    mlpOf a w₁ w₂ (ix3 b i l) = mlp (fun k => a (ix3 b i k)) (fun k f => w₁ (ix2 k f)) (fun f l => w₂ (ix2 f l)) l := by
  pointwise [mlpOf, mlp, hiddenUnit]

end Cert.Dense

end
-- ==== Proof.Mlp0Reference.lean ====
/-
  The reference of the layer's first MLP call: its whole term, stage by stage, at one index.
-/
module

public import proofs.«01_k».proof.Proof.DenseStages
public import proofs.«01_k».proof.Proof.Gen.Reference3Ideal.Run

@[expose] public section

set_option maxRecDepth 16384

noncomputable section

open Idealize.ShloMosaic Idealize.ShloMosaic.TcCoe Idealize.SL.Sem

namespace Cert.Reference3Ideal.Mlp

open Cert.Reference3Ideal Cert.Reference3Ideal.Gen Cert.Reference3Ideal.Value Cert.Rows Cert.Dense
open scoped BigOperators

variable (m : (ℓ : Loc nD τ sig) → Buf (Elt Ideal) ℓ) (c : Dev nD)

/-- Row `j` of the modulation argument. -/
abbrev gateOf (j : ℕ) (h : S9x6x1024.Slices ![0, j, 0] S8x1x1024) : FVec Ideal S8x1x1024 .f32 :=
  gate j h (m ((c : Thread nD τ).loc main_arg2))

/-- The residual stream behind the output projection. -/
def hx : FVec Ideal S8x4096x1024 .f32 :=
  stream (m ((c : Thread nD τ).loc main_arg0)) (m ((c : Thread nD τ).loc main_arg1))
    (gateOf m c 2 slices_S9x6x1024_S8x1x1024_0_2_0) (m ((c : Thread nD τ).loc main_arg4))

/-- What the MLP is fed. -/
def fed : FVec Ideal S8x4096x1024 .f32 :=
  modulated (norm (hx m c) (pick 0 slices_S2x1024_S1x1024_0_0 (m ((c : Thread nD τ).loc main_arg3))))
    (gateOf m c 3 slices_S9x6x1024_S8x1x1024_0_3_0) (gateOf m c 4 slices_S9x6x1024_S8x1x1024_0_4_0)

/-- The two weight matrices of the MLP. -/
def w₁ : FVec Ideal S1024x4096 .f32 :=
  shapeCast S1024x4096 (extractStridedSlice S1x1024x4096 ![0, 0, 0] (m ((c : Thread nD τ).loc main_arg5))
    slices_S2x1024x4096_S1x1024x4096_0_0_0) shapeCasts_S1x1024x4096_S1024x4096
def w₂ : FVec Ideal S4096x1024 .f32 :=
  shapeCast S4096x1024 (extractStridedSlice S1x4096x1024 ![0, 0, 0] (m ((c : Thread nD τ).loc main_arg6))
    slices_S2x4096x1024_S1x4096x1024_0_0_0) shapeCasts_S1x4096x1024_S4096x1024

theorem w₁_apply (k : Fin 1024) (f : Fin 4096) : w₁ m c (ix2 k f) = m ((c : Thread nD τ).loc main_arg5) (ix3 0 k f) := by
  pointwise [w₁]
theorem w₂_apply (f : Fin 4096) (l : Fin 1024) : w₂ m c (ix2 f l) = m ((c : Thread nD τ).loc main_arg6) (ix3 0 f l) := by
  pointwise [w₂]

/-- The reference's result is the stream plus the gated MLP. -/
theorem stages : res_main_v55 (F := Ideal) m c
    = addf (hx m c) (mulf (spread (gateOf m c 5 slices_S9x6x1024_S8x1x1024_0_5_0)) (mlpOf (fed m c) (w₁ m c) (w₂ m c))) :=
  rfl

/-- The reference's result at one index: `block` of the rows of its arguments. -/
theorem reference_eq (b : Fin 8) (i : Fin 4096) (l : Fin 1024) :
    res_main_v55 (F := Ideal) m c (ix3 b i l)
      = block (fun k => m ((c : Thread nD τ).loc main_arg0) (ix3 b i k)) (fun k => m ((c : Thread nD τ).loc main_arg1) (ix3 b i k))
    (fun k => m ((c : Thread nD τ).loc main_arg2) (ix3 ⟨b.val, by omega⟩ 2 k)) (fun k => m ((c : Thread nD τ).loc main_arg2) (ix3 ⟨b.val, by omega⟩ 3 k))
    (fun k => m ((c : Thread nD τ).loc main_arg2) (ix3 ⟨b.val, by omega⟩ 4 k)) (fun k => m ((c : Thread nD τ).loc main_arg2) (ix3 ⟨b.val, by omega⟩ 5 k))
    (fun k => m ((c : Thread nD τ).loc main_arg3) (ix2 0 k)) (fun k l => m ((c : Thread nD τ).loc main_arg4) (ix3 0 k l))
    (fun k f => m ((c : Thread nD τ).loc main_arg5) (ix3 0 k f)) (fun f l => m ((c : Thread nD τ).loc main_arg6) (ix3 0 f l)) l := by
  have g (j : ℕ) (hs : S9x6x1024.Slices ![0, j, 0] S8x1x1024) (hj : j < 6) (k : Fin 1024) :
      gateOf m c j hs (ix3 b 0 k) = m ((c : Thread nD τ).loc main_arg2) (ix3 ⟨b.val, by omega⟩ ⟨j, hj⟩ k) := gate_apply j hs hj _ b k
  have e (k : Fin 1024) : hx m c (ix3 b i k) = projResidual (fun k => m ((c : Thread nD τ).loc main_arg0) (ix3 b i k))
      (fun k => m ((c : Thread nD τ).loc main_arg1) (ix3 b i k)) (fun k => m ((c : Thread nD τ).loc main_arg2) (ix3 ⟨b.val, by omega⟩ 2 k))
      (fun k l => m ((c : Thread nD τ).loc main_arg4) (ix3 0 k l)) k := by
    refine (stream_apply _ _ _ _ b i k).trans ?_
    simp only [g 2 _ (by decide)]
    rfl
  have f (k : Fin 1024) : fed m c (ix3 b i k) = modulate (fun k => hx m c (ix3 b i k)) (fun k => m ((c : Thread nD τ).loc main_arg3) (ix2 0 k))
      (fun k => m ((c : Thread nD τ).loc main_arg2) (ix3 ⟨b.val, by omega⟩ 3 k)) (fun k => m ((c : Thread nD τ).loc main_arg2) (ix3 ⟨b.val, by omega⟩ 4 k)) k := by
    refine (modulated_apply _ _ _ b i k).trans ?_
    rw [norm_apply, g 3 _ (by decide), g 4 _ (by decide)]
    simp only [pick_apply 0 _ (by decide)]
    rfl
  rw [stages]
  pointwise
  rw [mlpOf_apply, g 5 _ (by decide)]
  simp only [f, w₁_apply, w₂_apply, e]
  rfl

end Cert.Reference3Ideal.Mlp

end
-- ==== Proof.Mlp0.lean ====
/-
  The layer's first MLP call: kernel and reference compute the same array on the extended reals.
-/
module

public import proofs.«01_k».proof.Defs
public import proofs.«01_k».proof.Proof.Mlp0Array
public import proofs.«01_k».proof.Proof.Mlp0Reference
public import proofs.«01_k».proof.Proof.Gen.Kernel3Ideal.Value

@[expose] public section

set_option maxRecDepth 16384

noncomputable section

open Idealize.ShloMosaic Idealize.ShloMosaic.TcCoe Idealize.SL.Sem

namespace Cert.Mlp0

/-- Kernel and reference, run from agreeing arguments, leave the same array. -/
theorem algebraic : Cert.algebraic_Kernel3Ideal_Reference3Ideal := by
  pair_intro
  · run_from Cert.Kernel3Ideal.Gen.run_main m g
  · run_from Cert.Reference3Ideal.Value.run m' g'
    refine Eq.trans ?_ (Cert.Kernel3Ideal.Mlp.final m c).symm
    funext i
    idx_vars i
    refine (Cert.Reference3Ideal.Mlp.reference_eq m' c i0 i1 i2).trans ?_
    obtain ⟨h0, h1, h2, h3, h4, h5, h6⟩ := hagree c
    simp only [h0, h1, h2, h3, h4, h5, h6]
    rfl

end Cert.Mlp0

end
-- ==== Proof.Mlp1Block.lean ====
module

public import proofs.«01_k».proof.Proof.Gen.Kernel2Ideal.Value
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel2Ideal.Mlp

open Cert.Kernel2Ideal Cert.Kernel2Ideal.Gen Cert.Rows
open scoped BigOperators

variable (x0 : FVec Ideal S1x512x1024 .bf16) (x1 : FVec Ideal S1x512x1024 .f32) (x2 : FVec Ideal S1x6x1024 .f32)
  (x3 : FVec Ideal S1x1024 .f32) (x4 : FVec Ideal S1024x1024 .bf16) (x5 : FVec Ideal S1024x4096 .bf16)
  (x6 : FVec Ideal S4096x1024 .bf16) (x7 : FVec Ideal S1x1024 .f32)

/-- Row `r` of the residual stream, from the blocks. -/
abbrev res (r : Fin 512) : Fin 1024 → EReal :=
  projResidual (fun k => x0 (ix3 0 r k)) (fun k => x1 (ix3 0 r k)) (fun k => x2 (ix3 0 2 k)) (fun k l => x4 (ix2 k l))

abbrev act (r : Fin 512) : Fin 1024 → EReal :=
  modulate (res x0 x1 x2 x4 r) (fun k => x3 (ix2 0 k)) (fun k => x2 (ix3 0 3 k)) (fun k => x2 (ix3 0 4 k))

/-- What the two named values of the body add up to: the modulated row the MLP is fed. -/
theorem act_eq (r : Fin 512) (k : Fin 1024) :
    k0_pay8 (F := Ideal) x0 x1 x2 x3 x4 x5 x6 x7 (ix2 r k) + k0_pay7 (F := Ideal) x0 x1 x2 x3 x4 x5 x6 x7 (ix2 0 k)
      = act x0 x1 x2 x3 x4 r k := by
  pointwise [k0_pay8, k0_pay7, k0_pay2, k0_pay3, k0_pay4]
  rfl

/-- The value normed last: the stream plus the gated sum of the MLP's runs (the last run is taken in `k0_pay1`). -/
abbrev lastRow (v11 : FVec Ideal S512x1024 .f32) (v36 : FVec Ideal S512x1024 .bf16) (v70 : FVec Ideal S512x1024 .f32)
    (v71 v78 : Vec Ideal S1024x1024 .bf16) (v82 : Vec Ideal S1x1x1024 .f32) (r : Fin 512) (l : Fin 1024) : EReal :=
  v11 (ix2 r l) + v82 (ix3 0 0 l) * (v70 (ix2 r l)
    + ∑ f : Fin 1024, hiddenUnit (fun k => v36 (ix2 r k)) (fun k f => v71 (ix2 k f)) f * v78 (ix2 f l))

theorem pay1_eq (v11 : FVec Ideal S512x1024 .f32) (v36 : FVec Ideal S512x1024 .bf16) (v70 : FVec Ideal S512x1024 .f32)
    (v71 v78 : Vec Ideal S1024x1024 .bf16) (v82 : Vec Ideal S1x1x1024 .f32) (v97 : Vec Ideal S1x1024 .f32) (r : Fin 512) (l : Fin 1024) :
    k0_pay1 v11 v36 v70 v71 v78 v82 v97 (ix3 0 r l)
      = rmsNorm (lastRow v11 v36 v70 v71 v78 v82 r) (fun k => v97 (ix2 0 k)) l := by
  pointwise [k0_pay1]
  rfl

/-- What one block's store holds: the final norm of `block`. -/
theorem out_eq (r : Fin 512) (l : Fin 1024) :
    out0_8 (F := Ideal) x0 x1 x2 x3 x4 x5 x6 x7 (ix3 0 r l)
      = rmsNorm (block (fun k => x0 (ix3 0 r k)) (fun k => x1 (ix3 0 r k)) (fun k => x2 (ix3 0 2 k)) (fun k => x2 (ix3 0 3 k))
          (fun k => x2 (ix3 0 4 k)) (fun k => x2 (ix3 0 5 k)) (fun k => x3 (ix2 0 k)) (fun k l => x4 (ix2 k l))
          (fun k f => x5 (ix2 k f)) (fun f l => x6 (ix2 f l))) (fun k => x7 (ix2 0 k)) l := by
  frame_out
  refine (pay1_eq _ _ _ _ _ _ _ r l).trans ?_
  refine congrArg₂ (fun x g => rmsNorm x g l) (funext fun k => ?_) (funext fun k => ?_)
  · pointwise [lastRow, k0_pay2, k0_pay3, k0_pay4, k0_pay5, k0_pay6, hiddenUnit]
    simp only [act_eq, block, mlp, ← sum_runs]
    rfl
  · pointwise

end Cert.Kernel2Ideal.Mlp

end
-- ==== Proof.Mlp1Array.lean ====
/-
  The last MLP call's blocks as parts of its argument arrays, and the array its grid points leave together.
-/
module

public import proofs.«01_k».proof.Proof.Mlp1Block
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen Cert.Rows
open scoped BigOperators

variable (m : (ℓ : Loc nD τ sig) → Buf (Elt Ideal) ℓ)

/-- Which block each window shows at a grid point (8 batches of 8 row tiles). -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![0, 0] ∧ win0_8.index t = ![t.val / 8, t.val % 8, 0] :=
  (by decide +kernel : ∀ t : Fin grid0.N, _)

variable (c : Dev nD) (t : Fin cfg0.N)

/-- The batch a grid point works in, and the token its block's row `r` is. -/
abbrev batch : Fin 8 := ⟨t.val / 8, by have := t.isLt; have : cfg0.N = 64 := N_0; omega⟩
abbrev token (r : Fin 512) : Fin 4096 := ⟨t.val % 8 * 512 + r.val, by omega⟩

theorem blk0 (r : Fin 512) (k : Fin 1024) :
    iblk m c 0 t (ix3 0 r k : S1x512x1024.Idx) = m ((c : Thread nD τ).loc main_arg0) (ix3 (batch t) (token t r) k) := by
  blk_ext [iblk, V, idx t]

theorem blk1 (r : Fin 512) (k : Fin 1024) :
    iblk m c 1 t (ix3 0 r k : S1x512x1024.Idx) = m ((c : Thread nD τ).loc main_arg1) (ix3 (batch t) (token t r) k) := by
  blk_ext [iblk, V, idx t]

theorem blk2 (j : Fin 6) (k : Fin 1024) :
    iblk m c 2 t (ix3 0 j k : S1x6x1024.Idx) = m ((c : Thread nD τ).loc main_arg2) (ix3 ⟨t.val / 8, by have := t.isLt; have : cfg0.N = 64 := N_0; omega⟩ j k) := by
  blk_ext [iblk, V, idx t]

theorem blk3 (k : Fin 1024) :
    iblk m c 3 t (ix2 0 k : S1x1024.Idx) = m ((c : Thread nD τ).loc main_arg3) (ix2 1 k) := by
  have h : iblk m c 3 t (ix2 0 k : S1x1024.Idx) = V m c main_v10 (ix2 0 k) := by blk_ext [iblk, idx t]
  rw [h]
  entry_read
  pointwise

theorem blk4 (k l : Fin 1024) :
    iblk m c 4 t (ix2 k l : S1024x1024.Idx) = m ((c : Thread nD τ).loc main_arg4) (ix3 0 k l) := by
  have h : iblk m c 4 t (ix2 k l : S1024x1024.Idx) = V m c main_v1 (ix2 k l) := by blk_ext [iblk, idx t]
  rw [h]
  entry_read
  pointwise

theorem blk5 (k : Fin 1024) (f : Fin 4096) :
    iblk m c 5 t (ix2 k f : S1024x4096.Idx) = m ((c : Thread nD τ).loc main_arg5) (ix3 1 k f) := by
  have h : iblk m c 5 t (ix2 k f : S1024x4096.Idx) = V m c main_v7 (ix2 k f) := by blk_ext [iblk, idx t]
  rw [h]
  entry_read
  pointwise

theorem blk6 (f : Fin 4096) (l : Fin 1024) :
    iblk m c 6 t (ix2 f l : S4096x1024.Idx) = m ((c : Thread nD τ).loc main_arg6) (ix3 1 f l) := by
  have h : iblk m c 6 t (ix2 f l : S4096x1024.Idx) = V m c main_v9 (ix2 f l) := by blk_ext [iblk, idx t]
  rw [h]
  entry_read
  pointwise

theorem blk7 (k : Fin 1024) :
    iblk m c 7 t (ix2 0 k : S1x1024.Idx) = m ((c : Thread nD τ).loc main_arg7) (ix1 k) := by
  have h : iblk m c 7 t (ix2 0 k : S1x1024.Idx) = V m c main_v11 (ix2 0 k) := by blk_ext [iblk, idx t]
  rw [h]
  entry_read
  pointwise

theorem emb_eq (r : Fin 512) (l : Fin 1024) :
    ((cfg0.win 8).blk t).view.emb (ix3 0 r l : S1x512x1024.Idx) = ix3 (batch t) (token t r) l := by
  blk_ext [iblk, V, idx t]

/-- The whole result, one row per token, as a function of the argument arrays. -/
def result (c : Dev nD) (b : Fin 8) (i : Fin 4096) (l : Fin 1024) : EReal :=
  rmsNorm (block (fun k => m ((c : Thread nD τ).loc main_arg0) (ix3 b i k)) (fun k => m ((c : Thread nD τ).loc main_arg1) (ix3 b i k))
    (fun k => m ((c : Thread nD τ).loc main_arg2) (ix3 ⟨b.val, by omega⟩ 2 k)) (fun k => m ((c : Thread nD τ).loc main_arg2) (ix3 ⟨b.val, by omega⟩ 3 k))
    (fun k => m ((c : Thread nD τ).loc main_arg2) (ix3 ⟨b.val, by omega⟩ 4 k)) (fun k => m ((c : Thread nD τ).loc main_arg2) (ix3 ⟨b.val, by omega⟩ 5 k))
    (fun k => m ((c : Thread nD τ).loc main_arg3) (ix2 1 k)) (fun k l => m ((c : Thread nD τ).loc main_arg4) (ix3 0 k l))
    (fun k f => m ((c : Thread nD τ).loc main_arg5) (ix3 1 k f)) (fun f l => m ((c : Thread nD τ).loc main_arg6) (ix3 1 f l)))
    (fun k => m ((c : Thread nD τ).loc main_arg7) (ix1 k)) l

/-- What a grid point leaves in the output's buffer is its block of `result`. -/
theorem point (r : Fin 512) (l : Fin 1024) :
    out0_8 (F := Ideal) (iblk m c 0 t) (iblk m c 1 t) (iblk m c 2 t) (iblk m c 3 t) (iblk m c 4 t) (iblk m c 5 t) (iblk m c 6 t)
      (iblk m c 7 t)       (ix3 0 r l) = result m c (batch t) (token t r) l := by
  refine (out_eq _ _ _ _ _ _ _ _ r l).trans ?_
  unfold result
  simp only [blk0 m c t, blk1 m c t, blk2 m c t, blk3 m c t, blk4 m c t, blk5 m c t, blk6 m c t, blk7 m c t]

/-- After the run the output array is `result`, index by index. -/
theorem final : (dats m 0 c).arrAt 8 cfg0.N = fun i : S8x4096x1024.Idx => result m c (i 0) (i 1) (i 2) := by
  refine (dats m 0 c).arrAt_eq_of_covers 8 _ (by decide +kernel) fun t hf y => ?_
  blk_simp
  rw [after0_8]
  idx_vars y
  obtain rfl : y0 = 0 := Subsingleton.elim _ _
  refine (point m c t y1 y2).trans ?_
  have h := emb_eq t y1 y2
  exact (congrArg (fun i : S8x4096x1024.Idx => result m c (i 0) (i 1) (i 2)) h).symm

end Cert.Kernel2Ideal.Mlp

end
-- ==== Proof.Mlp1Reference.lean ====
/-
  The reference of the layer's second MLP call: its whole term, stage by stage, at one index.
-/
module

public import proofs.«01_k».proof.Proof.DenseStages
public import proofs.«01_k».proof.Proof.Gen.Reference2Ideal.Run

@[expose] public section

set_option maxRecDepth 16384

noncomputable section

open Idealize.ShloMosaic Idealize.ShloMosaic.TcCoe Idealize.SL.Sem

namespace Cert.Reference2Ideal.Mlp

open Cert.Reference2Ideal Cert.Reference2Ideal.Gen Cert.Reference2Ideal.Value Cert.Rows Cert.Dense
open scoped BigOperators

variable (m : (ℓ : Loc nD τ sig) → Buf (Elt Ideal) ℓ) (c : Dev nD)

/-- Row `j` of the modulation argument. -/
abbrev gateOf (j : ℕ) (h : S9x6x1024.Slices ![0, j, 0] S8x1x1024) : FVec Ideal S8x1x1024 .f32 :=
  gate j h (m ((c : Thread nD τ).loc main_arg2))

/-- The residual stream behind the output projection. -/
def hx : FVec Ideal S8x4096x1024 .f32 :=
  stream (m ((c : Thread nD τ).loc main_arg0)) (m ((c : Thread nD τ).loc main_arg1))
    (gateOf m c 2 slices_S9x6x1024_S8x1x1024_0_2_0) (m ((c : Thread nD τ).loc main_arg4))

/-- What the MLP is fed. -/
def fed : FVec Ideal S8x4096x1024 .f32 :=
  modulated (norm (hx m c) (pick 1 slices_S2x1024_S1x1024_1_0 (m ((c : Thread nD τ).loc main_arg3))))
    (gateOf m c 3 slices_S9x6x1024_S8x1x1024_0_3_0) (gateOf m c 4 slices_S9x6x1024_S8x1x1024_0_4_0)

/-- The two weight matrices of the MLP. -/
def w₁ : FVec Ideal S1024x4096 .f32 :=
  shapeCast S1024x4096 (extractStridedSlice S1x1024x4096 ![1, 0, 0] (m ((c : Thread nD τ).loc main_arg5))
    slices_S2x1024x4096_S1x1024x4096_1_0_0) shapeCasts_S1x1024x4096_S1024x4096
def w₂ : FVec Ideal S4096x1024 .f32 :=
  shapeCast S4096x1024 (extractStridedSlice S1x4096x1024 ![1, 0, 0] (m ((c : Thread nD τ).loc main_arg6))
    slices_S2x4096x1024_S1x4096x1024_1_0_0) shapeCasts_S1x4096x1024_S4096x1024

theorem w₁_apply (k : Fin 1024) (f : Fin 4096) : w₁ m c (ix2 k f) = m ((c : Thread nD τ).loc main_arg5) (ix3 1 k f) := by
  pointwise [w₁]
theorem w₂_apply (f : Fin 4096) (l : Fin 1024) : w₂ m c (ix2 f l) = m ((c : Thread nD τ).loc main_arg6) (ix3 1 f l) := by
  pointwise [w₂]

/-- The stream behind the MLP. -/
def hx₂ : FVec Ideal S8x4096x1024 .f32 :=
  addf (hx m c) (mulf (spread (gateOf m c 5 slices_S9x6x1024_S8x1x1024_0_5_0)) (mlpOf (fed m c) (w₁ m c) (w₂ m c)))

/-- The reference's result is that stream, normed. -/
theorem stages : res_main_v68 (F := Ideal) m c = norm (hx₂ m c) (m ((c : Thread nD τ).loc main_arg7)) :=
  rfl

/-- The reference's result at one index: the norm of `block` of the rows of its arguments. -/
theorem reference_eq (b : Fin 8) (i : Fin 4096) (l : Fin 1024) :
    res_main_v68 (F := Ideal) m c (ix3 b i l)
      = rmsNorm (block (fun k => m ((c : Thread nD τ).loc main_arg0) (ix3 b i k)) (fun k => m ((c : Thread nD τ).loc main_arg1) (ix3 b i k))
    (fun k => m ((c : Thread nD τ).loc main_arg2) (ix3 ⟨b.val, by omega⟩ 2 k)) (fun k => m ((c : Thread nD τ).loc main_arg2) (ix3 ⟨b.val, by omega⟩ 3 k))
    (fun k => m ((c : Thread nD τ).loc main_arg2) (ix3 ⟨b.val, by omega⟩ 4 k)) (fun k => m ((c : Thread nD τ).loc main_arg2) (ix3 ⟨b.val, by omega⟩ 5 k))
    (fun k => m ((c : Thread nD τ).loc main_arg3) (ix2 1 k)) (fun k l => m ((c : Thread nD τ).loc main_arg4) (ix3 0 k l))
    (fun k f => m ((c : Thread nD τ).loc main_arg5) (ix3 1 k f)) (fun f l => m ((c : Thread nD τ).loc main_arg6) (ix3 1 f l)))
    (fun k => m ((c : Thread nD τ).loc main_arg7) (ix1 k)) l := by
  have g (j : ℕ) (hs : S9x6x1024.Slices ![0, j, 0] S8x1x1024) (hj : j < 6) (k : Fin 1024) :
      gateOf m c j hs (ix3 b 0 k) = m ((c : Thread nD τ).loc main_arg2) (ix3 ⟨b.val, by omega⟩ ⟨j, hj⟩ k) := gate_apply j hs hj _ b k
  have e (k : Fin 1024) : hx m c (ix3 b i k) = projResidual (fun k => m ((c : Thread nD τ).loc main_arg0) (ix3 b i k))
      (fun k => m ((c : Thread nD τ).loc main_arg1) (ix3 b i k)) (fun k => m ((c : Thread nD τ).loc main_arg2) (ix3 ⟨b.val, by omega⟩ 2 k))
      (fun k l => m ((c : Thread nD τ).loc main_arg4) (ix3 0 k l)) k := by
    refine (stream_apply _ _ _ _ b i k).trans ?_
    simp only [g 2 _ (by decide)]
    rfl
  have f (k : Fin 1024) : fed m c (ix3 b i k) = modulate (fun k => hx m c (ix3 b i k)) (fun k => m ((c : Thread nD τ).loc main_arg3) (ix2 1 k))
      (fun k => m ((c : Thread nD τ).loc main_arg2) (ix3 ⟨b.val, by omega⟩ 3 k)) (fun k => m ((c : Thread nD τ).loc main_arg2) (ix3 ⟨b.val, by omega⟩ 4 k)) k := by
    refine (modulated_apply _ _ _ b i k).trans ?_
    rw [norm_apply, g 3 _ (by decide), g 4 _ (by decide)]
    simp only [pick_apply 1 _ (by decide)]
    rfl
  rw [stages, norm_apply]
  refine congrArg (fun x => rmsNorm x _ l) (funext fun l => ?_)
  pointwise [hx₂]
  rw [mlpOf_apply, g 5 _ (by decide)]
  simp only [f, w₁_apply, w₂_apply, e]
  rfl

end Cert.Reference2Ideal.Mlp

end
-- ==== Proof.Mlp1.lean ====
/-
  The layer's second MLP call: kernel and reference compute the same array on the extended reals.
-/
module

public import proofs.«01_k».proof.Defs
public import proofs.«01_k».proof.Proof.Mlp1Array
public import proofs.«01_k».proof.Proof.Mlp1Reference
public import proofs.«01_k».proof.Proof.Gen.Kernel2Ideal.Value

@[expose] public section

set_option maxRecDepth 16384

noncomputable section

open Idealize.ShloMosaic Idealize.ShloMosaic.TcCoe Idealize.SL.Sem

namespace Cert.Mlp1

/-- Kernel and reference, run from agreeing arguments, leave the same array. -/
theorem algebraic : Cert.algebraic_Kernel2Ideal_Reference2Ideal := by
  pair_intro
  · run_from Cert.Kernel2Ideal.Gen.run_main m g
  · run_from Cert.Reference2Ideal.Value.run m' g'
    refine Eq.trans ?_ (Cert.Kernel2Ideal.Mlp.final m c).symm
    funext i
    idx_vars i
    refine (Cert.Reference2Ideal.Mlp.reference_eq m' c i0 i1 i2).trans ?_
    obtain ⟨h0, h1, h2, h3, h4, h5, h6, h7⟩ := hagree c
    simp only [h0, h1, h2, h3, h4, h5, h6, h7]
    rfl

end Cert.Mlp1

end
-- ==== Proof.Proj1Block.lean ====
/-
  One block of the last input projection: 512 modulated rows times the weights, the first 2048 columns turned
  by the rotary tables, as a function of the blocks it reads.
-/
module

public import proofs.«01_k».proof.Proof.Gen.Kernel4Ideal.Frame
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Rows
open scoped BigOperators

/-- A chunk of 512 columns: the rows times 512 columns of the weights. -/
def chunk (a : FVec Ideal S512x1024 .bf16) (w : Vec Ideal S1024x512 .bf16) : FVec Ideal S512x512 .f32 :=
  matmul dot_S512x1024_S1024x512_S512x512_1_0_0_1_n_n none a
    (shapeCast S1024x512 w shapeCasts_S1024x512_S1024x512 : FVec Ideal S1024x512 .bf16) (constant S512x512 .f32 0x00000000#32)

theorem chunk_apply (a : FVec Ideal S512x1024 .bf16) (w : Vec Ideal S1024x512 .bf16) (i j : Fin 512) :
    chunk a w (ix2 i j) = ∑ k : Fin 1024, a (ix2 i k) * w (ix2 k j) := by
  pointwise [chunk]

/-- The 128 columns of a chunk from column `o` on. -/
abbrev lanes128 (o : ℕ) (h : S512x512.Slices ![0, o] S512x128) (p : FVec Ideal S512x512 .f32) : FVec Ideal S512x128 .f32 :=
  extractStridedSlice S512x128 ![0, o] p h

/-- The stored form of 128 columns. -/
def stored (x : FVec Ideal S512x128 .f32) : FVec Ideal S1x512x128 .bf16 :=
  shapeCast S1x512x128 (truncf .bf16 x bitsLt_bf16_f32 : FVec Ideal S512x128 .bf16) shapeCasts_S512x128_S1x512x128

theorem stored_apply (x : FVec Ideal S512x128 .f32) (i : Fin 512) (l : Fin 128) : stored x (ix3 0 i l) = x (ix2 i l) := by
  pointwise [stored]

/-- 128 columns turned by three tables: the columns themselves, and the columns 16 above and 16 below. -/
def turned (x : FVec Ideal S512x128 .f32) (t u v : Vec Ideal S512x128 .f32) : FVec Ideal S512x128 .f32 :=
  addf (addf (mulf x (shapeCast S512x128 t shapeCasts_S512x128_S512x128))
      (mulf (dynamicRotate 1 112#32 none x rotates_S512x128_d1) (shapeCast S512x128 u shapeCasts_S512x128_S512x128)))
    (mulf (dynamicRotate 1 16#32 none x rotates_S512x128_d1) (shapeCast S512x128 v shapeCasts_S512x128_S512x128))

theorem turned_apply (x : FVec Ideal S512x128 .f32) (t u v : Vec Ideal S512x128 .f32) (i : Fin 512) (l : Fin 128) :
    turned x t u v (ix2 i l) = x (ix2 i l) * t (ix2 i l)
      + x (ix2 i ⟨(l.val + 16) % 128, Nat.mod_lt _ (by decide)⟩) * u (ix2 i l)
      + x (ix2 i ⟨(l.val + 112) % 128, Nat.mod_lt _ (by decide)⟩) * v (ix2 i l) := by
  pointwise [turned]
  simp only [show l.val + 128 - 112 = l.val + 16 from by omega, show l.val + 128 - 16 = l.val + 112 from by omega]

/-- Column `n` of a row's product with the weights. -/
def col (a : Fin 1024 → EReal) (w : Fin 1024 → Fin 3072 → EReal) (n : ℕ) : EReal :=
  ∑ k, a k * w k ⟨n % 3072, Nat.mod_lt _ (by decide)⟩

/-- What is stored in column `n`, of a row's columns `p` and the row's three tables. -/
def entry (p : ℕ → EReal) (t u v : Fin 128 → EReal) (n : ℕ) : EReal :=
  if n < 2048 then
    p n * t ⟨n % 128, Nat.mod_lt _ (by decide)⟩
      + p (n / 128 * 128 + (n % 128 + 16) % 128) * u ⟨n % 128, Nat.mod_lt _ (by decide)⟩
      + p (n / 128 * 128 + (n % 128 + 112) % 128) * v ⟨n % 128, Nat.mod_lt _ (by decide)⟩
  else p n

section pieces

variable (a : FVec Ideal S512x1024 .bf16) (x3 : Vec Ideal S1024x3072 .bf16) (w : Vec Ideal S1024x512 .bf16)
  (b o : ℕ) (h : S512x512.Slices ![0, o] S512x128) (hb : b + 512 ≤ 3072) (ho : o + 128 ≤ 512)
  (hw : ∀ (k : Fin 1024) (j : Fin 512), w (ix2 k j) = x3 (ix2 k ⟨b + j.val, by omega⟩))
  (t u v : Vec Ideal S512x128 .f32) (i : Fin 512) (l : Fin 128)

include ho hw in
theorem lanes_at (n : ℕ) (hn : n = b + o + l.val) :
    lanes128 o h (chunk a w) (ix2 i l) = col (fun k => a (ix2 i k)) (fun k n => x3 (ix2 k n)) n := by
  subst hn
  have e : lanes128 o h (chunk a w) (ix2 i l) = chunk a w (ix2 i ⟨o + l.val, by omega⟩) := by pointwise
  rw [e, chunk_apply]
  refine Finset.sum_congr rfl fun k _ => ?_
  rw [hw]
  refine congrArg (fun n => a (ix2 i k) * x3 (ix2 k n)) (Fin.ext ?_)
  show b + (o + l.val) = (b + o + l.val) % 3072
  omega

include ho hw in
theorem plain_at (n : ℕ) (hn : n = b + o + l.val) (hge : ¬ n < 2048) :
    stored (lanes128 o h (chunk a w)) (ix3 0 i l) = entry (col (fun k => a (ix2 i k)) (fun k n => x3 (ix2 k n)))
      (fun l => t (ix2 i l)) (fun l => u (ix2 i l)) (fun l => v (ix2 i l)) n := by
  rw [stored_apply, entry, if_neg hge]
  exact lanes_at a x3 w b o h hb ho hw i l n hn

include ho hw in
theorem turned_at (n : ℕ) (hn : n = b + o + l.val) (hlt : n < 2048) (hd : (b + o) % 128 = 0) :
    stored (turned (lanes128 o h (chunk a w)) t u v) (ix3 0 i l)
      = entry (col (fun k => a (ix2 i k)) (fun k n => x3 (ix2 k n)))
      (fun l => t (ix2 i l)) (fun l => u (ix2 i l)) (fun l => v (ix2 i l)) n := by
  have e : (⟨n % 128, Nat.mod_lt _ (by decide)⟩ : Fin 128) = l := Fin.ext (by show n % 128 = l.val; omega)
  rw [stored_apply, turned_apply, entry, if_pos hlt, e,
    lanes_at a x3 w b o h hb ho hw i l n hn,
    lanes_at a x3 w b o h hb ho hw i _ (n / 128 * 128 + (n % 128 + 16) % 128) (by dsimp only; omega),
    lanes_at a x3 w b o h hb ho hw i _ (n / 128 * 128 + (n % 128 + 112) % 128) (by dsimp only; omega)]

include ho hw in
/-- The two forms above, read at an index of the piece and at the block's index it lands on. -/
theorem plain_piece (x : S1x512x128.Idx) (y : S1x512x3072.Idx) (h1 : (y 1).val = (x 1).val) (h2 : (y 2).val = b + o + (x 2).val)
    (hge : ¬ (y 2).val < 2048) :
    stored (lanes128 o h (chunk a w)) x = entry (col (fun k => a (ix2 (y 1) k)) (fun k n => x3 (ix2 k n)))
      (fun l => t (ix2 (y 1) l)) (fun l => u (ix2 (y 1) l)) (fun l => v (ix2 (y 1) l)) (y 2).val := by
  idx_vars x
  idx_vars y
  obtain rfl : y1 = x1 := Fin.ext h1
  obtain rfl : x0 = 0 := Subsingleton.elim _ _
  exact plain_at a x3 w b o h hb ho hw t u v y1 x2 y2.val h2 hge

include ho hw in
theorem turned_piece (x : S1x512x128.Idx) (y : S1x512x3072.Idx) (h1 : (y 1).val = (x 1).val) (h2 : (y 2).val = b + o + (x 2).val)
    (hlt : (y 2).val < 2048) (hd : (b + o) % 128 = 0) :
    stored (turned (lanes128 o h (chunk a w)) t u v) x = entry (col (fun k => a (ix2 (y 1) k)) (fun k n => x3 (ix2 k n)))
      (fun l => t (ix2 (y 1) l)) (fun l => u (ix2 (y 1) l)) (fun l => v (ix2 (y 1) l)) (y 2).val := by
  idx_vars x
  idx_vars y
  obtain rfl : y1 = x1 := Fin.ext h1
  obtain rfl : x0 = 0 := Subsingleton.elim _ _
  exact turned_at a x3 w b o h hb ho hw t u v y1 x2 y2.val h2 hlt hd

end pieces

variable (x0 : Vec Ideal S1x512x1024 .f32) (x1 : Vec Ideal S1x6x1024 .f32) (x2 : Vec Ideal S1x1024 .f32)
  (x3 : Vec Ideal S1024x3072 .bf16) (x4 x5 x6 : Vec Ideal S512x128 .f32)

/-- The modulated rows. -/
abbrev rows : FVec Ideal S512x1024 .bf16 := k0_pay5 (F := Ideal) (View.ld x0 r0_0) (View.ld x2 r0_1) (View.ld x1 r0_2) (View.ld x1 r0_3)

theorem rows_apply (i : Fin 512) (k : Fin 1024) : rows x0 x1 x2 (ix2 i k)
    = modulate (fun k => x0 (ix3 0 i k)) (fun k => x2 (ix2 0 k)) (fun k => x1 (ix3 0 0 k)) (fun k => x1 (ix3 0 1 k)) k := by
  pointwise [rows, k0_pay5, modulate, rmsNorm]

theorem table (t : Vec Ideal S512x128 .f32) : View.ld t r0_5 = t := by
  funext i
  idx_vars i
  pointwise

theorem w0 (k : Fin 1024) (j : Fin 512) : View.ld x3 r0_4 (ix2 k j) = x3 (ix2 k ⟨0 + j.val, by omega⟩) := by
  pointwise
theorem w1 (k : Fin 1024) (j : Fin 512) : View.ld x3 r0_10 (ix2 k j) = x3 (ix2 k ⟨512 + j.val, by omega⟩) := by
  pointwise
theorem w2 (k : Fin 1024) (j : Fin 512) : View.ld x3 r0_15 (ix2 k j) = x3 (ix2 k ⟨1024 + j.val, by omega⟩) := by
  pointwise
theorem w3 (k : Fin 1024) (j : Fin 512) : View.ld x3 r0_20 (ix2 k j) = x3 (ix2 k ⟨1536 + j.val, by omega⟩) := by
  pointwise
theorem w4 (k : Fin 1024) (j : Fin 512) : View.ld x3 r0_25 (ix2 k j) = x3 (ix2 k ⟨2048 + j.val, by omega⟩) := by
  pointwise
theorem w5 (k : Fin 1024) (j : Fin 512) : View.ld x3 r0_30 (ix2 k j) = x3 (ix2 k ⟨2560 + j.val, by omega⟩) := by
  pointwise

/-- What one block's stores hold together. -/
theorem out_eq (y : S1x512x3072.Idx) :
    out0_7 (F := Ideal) x0 x1 x2 x3 x4 x5 x6 y
      = entry (col (fun k => rows x0 x1 x2 (ix2 (y 1) k)) (fun k n => x3 (ix2 k n)))
          (fun l => x4 (ix2 (y 1) l)) (fun l => x5 (ix2 (y 1) l)) (fun l => x6 (ix2 (y 1) l)) (y 2).val := by
  unfold_out out0_7
  simp only [table]
  canon_tiles x h
  case piece0 => exact plain_piece (rows x0 x1 x2) x3 _ 2560 384 slices_S512x512_o0_384_S512x128 (by decide) (by decide) (w5 x3) x4 x5 x6 x y h1 (by omega) (by omega)
  case piece1 => exact plain_piece (rows x0 x1 x2) x3 _ 2560 256 slices_S512x512_o0_256_S512x128 (by decide) (by decide) (w5 x3) x4 x5 x6 x y h1 (by omega) (by omega)
  case piece2 => exact plain_piece (rows x0 x1 x2) x3 _ 2560 128 slices_S512x512_o0_128_S512x128 (by decide) (by decide) (w5 x3) x4 x5 x6 x y h1 (by omega) (by omega)
  case piece3 => exact plain_piece (rows x0 x1 x2) x3 _ 2560 0 slices_S512x512_o0_0_S512x128 (by decide) (by decide) (w5 x3) x4 x5 x6 x y h1 (by omega) (by omega)
  case piece4 => exact plain_piece (rows x0 x1 x2) x3 _ 2048 384 slices_S512x512_o0_384_S512x128 (by decide) (by decide) (w4 x3) x4 x5 x6 x y h1 (by omega) (by omega)
  case piece5 => exact plain_piece (rows x0 x1 x2) x3 _ 2048 256 slices_S512x512_o0_256_S512x128 (by decide) (by decide) (w4 x3) x4 x5 x6 x y h1 (by omega) (by omega)
  case piece6 => exact plain_piece (rows x0 x1 x2) x3 _ 2048 128 slices_S512x512_o0_128_S512x128 (by decide) (by decide) (w4 x3) x4 x5 x6 x y h1 (by omega) (by omega)
  case piece7 => exact plain_piece (rows x0 x1 x2) x3 _ 2048 0 slices_S512x512_o0_0_S512x128 (by decide) (by decide) (w4 x3) x4 x5 x6 x y h1 (by omega) (by omega)
  case piece8 => exact turned_piece (rows x0 x1 x2) x3 _ 1536 384 slices_S512x512_o0_384_S512x128 (by decide) (by decide) (w3 x3) x4 x5 x6 x y h1 (by omega) (by omega) (by decide)
  case piece9 => exact turned_piece (rows x0 x1 x2) x3 _ 1536 256 slices_S512x512_o0_256_S512x128 (by decide) (by decide) (w3 x3) x4 x5 x6 x y h1 (by omega) (by omega) (by decide)
  case piece10 => exact turned_piece (rows x0 x1 x2) x3 _ 1536 128 slices_S512x512_o0_128_S512x128 (by decide) (by decide) (w3 x3) x4 x5 x6 x y h1 (by omega) (by omega) (by decide)
  case piece11 => exact turned_piece (rows x0 x1 x2) x3 _ 1536 0 slices_S512x512_o0_0_S512x128 (by decide) (by decide) (w3 x3) x4 x5 x6 x y h1 (by omega) (by omega) (by decide)
  case piece12 => exact turned_piece (rows x0 x1 x2) x3 _ 1024 384 slices_S512x512_o0_384_S512x128 (by decide) (by decide) (w2 x3) x4 x5 x6 x y h1 (by omega) (by omega) (by decide)
  case piece13 => exact turned_piece (rows x0 x1 x2) x3 _ 1024 256 slices_S512x512_o0_256_S512x128 (by decide) (by decide) (w2 x3) x4 x5 x6 x y h1 (by omega) (by omega) (by decide)
  case piece14 => exact turned_piece (rows x0 x1 x2) x3 _ 1024 128 slices_S512x512_o0_128_S512x128 (by decide) (by decide) (w2 x3) x4 x5 x6 x y h1 (by omega) (by omega) (by decide)
  case piece15 => exact turned_piece (rows x0 x1 x2) x3 _ 1024 0 slices_S512x512_o0_0_S512x128 (by decide) (by decide) (w2 x3) x4 x5 x6 x y h1 (by omega) (by omega) (by decide)
  case piece16 => exact turned_piece (rows x0 x1 x2) x3 _ 512 384 slices_S512x512_o0_384_S512x128 (by decide) (by decide) (w1 x3) x4 x5 x6 x y h1 (by omega) (by omega) (by decide)
  case piece17 => exact turned_piece (rows x0 x1 x2) x3 _ 512 256 slices_S512x512_o0_256_S512x128 (by decide) (by decide) (w1 x3) x4 x5 x6 x y h1 (by omega) (by omega) (by decide)
  case piece18 => exact turned_piece (rows x0 x1 x2) x3 _ 512 128 slices_S512x512_o0_128_S512x128 (by decide) (by decide) (w1 x3) x4 x5 x6 x y h1 (by omega) (by omega) (by decide)
  case piece19 => exact turned_piece (rows x0 x1 x2) x3 _ 512 0 slices_S512x512_o0_0_S512x128 (by decide) (by decide) (w1 x3) x4 x5 x6 x y h1 (by omega) (by omega) (by decide)
  case piece20 => exact turned_piece (rows x0 x1 x2) x3 _ 0 384 slices_S512x512_o0_384_S512x128 (by decide) (by decide) (w0 x3) x4 x5 x6 x y h1 (by omega) (by omega) (by decide)
  case piece21 => exact turned_piece (rows x0 x1 x2) x3 _ 0 256 slices_S512x512_o0_256_S512x128 (by decide) (by decide) (w0 x3) x4 x5 x6 x y h1 (by omega) (by omega) (by decide)
  case piece22 => exact turned_piece (rows x0 x1 x2) x3 _ 0 128 slices_S512x512_o0_128_S512x128 (by decide) (by decide) (w0 x3) x4 x5 x6 x y h1 (by omega) (by omega) (by decide)
  case piece23 => exact turned_piece (rows x0 x1 x2) x3 _ 0 0 slices_S512x512_o0_0_S512x128 (by decide) (by decide) (w0 x3) x4 x5 x6 x y h1 (by omega) (by omega) (by decide)

end Cert.Kernel4Ideal.Proj

end
-- ==== Proof.Proj1Turn.lean ====
/-
  The turn of a row's columns by the rotary tables: the kernel's three-table form of scaled columns is the
  reference's form scaled afterwards. Over the extended reals, with a scale that is a real and not negative.
-/
module

public import proofs.«01_k».proof.Proof.Proj1Block

@[expose] public section

set_option maxRecDepth 16384

noncomputable section

open Idealize.ShloMosaic Idealize.ShloMosaic.TcCoe Idealize.SL.Sem

namespace Cert.Kernel4Ideal.Proj

open scoped BigOperators

/-- The scale of a column: that of the queries on the first 1024, one on the rest. -/
def scaleOf (n : ℕ) : EReal := if n < 1024 then Ideal.ofBits .f32 0x3E000000#32 else 1

theorem eighth : Ideal.ofBits .f32 0x3E000000#32 = ((8388608 * (2 ^ 26)⁻¹ : ℝ) : EReal) := by
  rw [EReal.coe_mul]
  simp [Ideal.ofBits, Ideal.ieee]

theorem scale_nonneg (n : ℕ) : 0 ≤ scaleOf n := by
  unfold scaleOf
  split
  · rw [eighth]
    exact EReal.coe_nonneg.mpr (by positivity)
  · exact zero_le_one

theorem scale_ne_top (n : ℕ) : scaleOf n ≠ ⊤ := by
  unfold scaleOf
  split
  · rw [eighth]
    exact EReal.coe_ne_top _
  · exact EReal.coe_ne_top 1

/-- A real scale that is not negative leaves a sum. -/
theorem sum_scale {ι : Type} (s : EReal) (h0 : 0 ≤ s) (ht : s ≠ ⊤) (f : ι → EReal) (T : Finset ι) :
    ∑ k ∈ T, f k * s = (∑ k ∈ T, f k) * s := by
  classical
  induction T using Finset.induction_on with
  | empty => simp
  | insert a T ha ih => rw [Finset.sum_insert ha, Finset.sum_insert ha, ih, EReal.right_distrib_of_nonneg_of_ne_top h0 ht]

/-- A scaled column. -/
theorem col_scale (a : Fin 1024 → EReal) (w : Fin 1024 → Fin 3072 → EReal) (n : ℕ) (hn : n < 3072) :
    col a (fun k n => w k n * scaleOf n.val) n = col a w n * scaleOf n := by
  unfold col
  rw [← sum_scale _ (scale_nonneg n) (scale_ne_top n)]
  refine Finset.sum_congr rfl fun k _ => ?_
  simp only [Nat.mod_eq_of_lt hn, mul_assoc]

theorem even_turn (x y z s p q : EReal) (h0 : 0 ≤ s) (ht : s ≠ ⊤) :
    x * s * p + y * s * (-q) + z * 0 = (x * p + -y * q) * s := by
  rw [mul_zero, add_zero, EReal.right_distrib_of_nonneg_of_ne_top h0 ht, mul_neg, neg_mul, neg_mul, mul_right_comm x, mul_right_comm y]

theorem odd_turn (x y z s p q : EReal) (h0 : 0 ≤ s) (ht : s ≠ ⊤) :
    x * s * p + z * 0 + y * s * q = (x * p + y * q) * s := by
  rw [mul_zero, add_zero, EReal.right_distrib_of_nonneg_of_ne_top h0 ht, mul_right_comm x, mul_right_comm y]

/-- What the reference leaves in column `n` of a row whose columns are `P`. -/
def turnedAt (P : ℕ → EReal) (p q : Fin 64 → EReal) (n : ℕ) : EReal :=
  P n * p ⟨n % 64, Nat.mod_lt _ (by decide)⟩
    + (if n / 16 % 2 = 0 then - P (n + 16) else P (n - 16)) * q ⟨n % 64, Nat.mod_lt _ (by decide)⟩

def refAt (P : ℕ → EReal) (p q : Fin 64 → EReal) (n : ℕ) : EReal :=
  if n < 2048 then turnedAt P p q n * scaleOf n else P n

theorem scale_block (n k : ℕ) (h : n / 128 = k / 128) : scaleOf n = scaleOf k := by
  unfold scaleOf
  have : n < 1024 ↔ k < 1024 := by omega
  simp only [this]

/-- The kernel's entry is the reference's. -/
theorem entry_eq (P P' : ℕ → EReal) (p q : Fin 64 → EReal) (t u v : Fin 128 → EReal) (hP : ∀ n < 3072, P' n = P n * scaleOf n)
    (ht : ∀ l : Fin 128, t l = p ⟨l.val % 64, Nat.mod_lt _ (by decide)⟩)
    (hu : ∀ l : Fin 128, u l = if l.val % 64 / 16 % 2 = 0 then - q ⟨l.val % 64, Nat.mod_lt _ (by decide)⟩ else 0)
    (hv : ∀ l : Fin 128, v l = if l.val % 64 / 16 % 2 = 0 then 0 else q ⟨l.val % 64, Nat.mod_lt _ (by decide)⟩)
    (n : ℕ) (hn : n < 3072) : entry P' t u v n = refAt P p q n := by
  unfold entry refAt
  split
  · rename_i h
    rw [ht, hu, hv, hP n hn, hP _ (by omega), hP _ (by omega), scale_block (n / 128 * 128 + (n % 128 + 16) % 128) n (by omega),
      scale_block (n / 128 * 128 + (n % 128 + 112) % 128) n (by omega)]
    unfold turnedAt
    have e1 : n % 128 % 64 = n % 64 := by omega
    simp only [e1]
    by_cases hd : n / 16 % 2 = 0
    · have e2 : n % 64 / 16 % 2 = 0 := by omega
      have e3 : n / 128 * 128 + (n % 128 + 16) % 128 = n + 16 := by omega
      simp only [hd, e2, e3, if_true]
      exact even_turn _ _ _ _ _ _ (scale_nonneg n) (scale_ne_top n)
    · have e2 : ¬ n % 64 / 16 % 2 = 0 := by omega
      have e3 : n / 128 * 128 + (n % 128 + 112) % 128 = n - 16 := by omega
      simp only [hd, e2, e3, if_false]
      exact odd_turn _ _ _ _ _ _ (scale_nonneg n) (scale_ne_top n)
  · rename_i h
    rw [hP n hn]
    unfold scaleOf
    rw [if_neg (by omega), mul_one]

end Cert.Kernel4Ideal.Proj

end
-- ==== Proof.Proj1Angles.lean ====
/-
  The rotary angles of the last input projection, one per token and lane of a head: the token's row in the
  grid times sixteen frequencies, twice, and its column times them, twice.

  Kernel and reference compute them by the same operations, so nothing is proved about their values.
-/
module

public import proofs.«01_k».proof.Proof.Gen.Reference4Ideal
public import Idealize.ShloMosaic.PureOps.Ideal
public import Idealize.ShloMosaic.Lib.Pointwise

@[expose] public section

set_option maxRecDepth 16384
set_option maxHeartbeats 1000000

noncomputable section

open Idealize.ShloMosaic Idealize.ShloMosaic.TcCoe Idealize.SL.Sem

namespace Cert.Turn

open Cert.Reference4Ideal Cert.Reference4Ideal.Gen

/-- The sixteen frequencies. -/
def freq : FVec Ideal S16 .f32 :=
    Host.powf (broadcastInDim S16 ![] bcast_S_S16 (constant S_ .f32 0x461C4000#32)) (Host.divf (Host.negf (sitofp .f32
    (iotaInDim S16 32 0))) (broadcastInDim S16 ![] bcast_S_S16 (constant S_ .f32 0x41800000#32)))

/-- The tokens' rows in the grid, 64 tokens to a row. -/
def gridRow : IVec S4096 32 :=
    select (andi (cmpi .ne (signi (iotaInDim S4096 32 0)) (broadcastInDim S4096 ![] bcast_S_S4096 (signi (id (constantI
    S_ 32 64#32))))) (cmpi .ne (Host.remsi (iotaInDim S4096 32 0) (broadcastInDim S4096 ![] bcast_S_S4096 (id
    (constantI S_ 32 64#32)))) (broadcastInDim S4096 ![] bcast_S_S4096 (constantI S_ 32 0#32)))) (subi (Host.divsi
    (iotaInDim S4096 32 0) (broadcastInDim S4096 ![] bcast_S_S4096 (id (constantI S_ 32 64#32)))) (broadcastInDim S4096
    ![] bcast_S_S4096 (constantI S_ 32 1#32))) (Host.divsi (iotaInDim S4096 32 0) (broadcastInDim S4096 ![]
    bcast_S_S4096 (id (constantI S_ 32 64#32))))

/-- The tokens' columns in the grid. -/
def gridCol : IVec S4096 32 :=
    select (andi (cmpi .ne (cmpi .slt (Host.remsi (iotaInDim S4096 32 0) (broadcastInDim S4096 ![] bcast_S_S4096
    (select (cmpi .eq (id (constantI S_ 32 64#32)) (constantI S_ 32 0#32)) (constantI S_ 32 1#32) (id (constantI S_ 32
    64#32))))) (broadcastInDim S4096 ![] bcast_S_S4096 (constantI S_ 32 0#32))) (broadcastInDim S4096 ![] bcast_S_S4096
    (cmpi .slt (select (cmpi .eq (id (constantI S_ 32 64#32)) (constantI S_ 32 0#32)) (constantI S_ 32 1#32) (id
    (constantI S_ 32 64#32))) (constantI S_ 32 0#32)))) (cmpi .ne (Host.remsi (iotaInDim S4096 32 0) (broadcastInDim
    S4096 ![] bcast_S_S4096 (select (cmpi .eq (id (constantI S_ 32 64#32)) (constantI S_ 32 0#32)) (constantI S_ 32
    1#32) (id (constantI S_ 32 64#32))))) (broadcastInDim S4096 ![] bcast_S_S4096 (constantI S_ 32 0#32)))) (addi
    (Host.remsi (iotaInDim S4096 32 0) (broadcastInDim S4096 ![] bcast_S_S4096 (select (cmpi .eq (id (constantI S_ 32
    64#32)) (constantI S_ 32 0#32)) (constantI S_ 32 1#32) (id (constantI S_ 32 64#32))))) (broadcastInDim S4096 ![]
    bcast_S_S4096 (select (cmpi .eq (id (constantI S_ 32 64#32)) (constantI S_ 32 0#32)) (constantI S_ 32 1#32) (id
    (constantI S_ 32 64#32))))) (Host.remsi (iotaInDim S4096 32 0) (broadcastInDim S4096 ![] bcast_S_S4096 (select
    (cmpi .eq (id (constantI S_ 32 64#32)) (constantI S_ 32 0#32)) (constantI S_ 32 1#32) (id (constantI S_ 32
    64#32)))))

/-- A coordinate times every frequency. -/
def quarter (x : FVec Ideal S4096 .f32) : FVec Ideal S4096x16 .f32 :=
    mulf (broadcastInDim S4096x16 ![0, 1] bcast_S4096x1_S4096x16_0_1 (broadcastInDim S4096x1 ![0] bcast_S4096_S4096x1_0
    x)) (broadcastInDim S4096x16 ![0, 1] bcast_S1x16_S4096x16_0_1 (broadcastInDim S1x16 ![1] bcast_S16_S1x16_1 freq))

/-- The angles of given rows and columns. -/
def angleOf (x y : IVec S4096 32) : FVec Ideal S4096x64 .f32 :=
  concatenate S4096x64 1 [⟨S4096x16, quarter (sitofp .f32 x)⟩, ⟨S4096x16, quarter (sitofp .f32 x)⟩, ⟨S4096x16, quarter (sitofp .f32 y)⟩,
    ⟨S4096x16, quarter (sitofp .f32 y)⟩] concatenates_S4096x16_S4096x16_S4096x16_S4096x16_S4096x64_d1

/-- The angles. -/
def angle : FVec Ideal S4096x64 .f32 := angleOf gridRow gridCol

end Cert.Turn

end
-- ==== Proof.Proj1Tables.lean ====
/-
  What the host hands the last input projection: the three rotary tables and the scaled weights, at one index.
-/
module

public import proofs.«01_k».proof.Proof.Proj1Turn
public import proofs.«01_k».proof.Proof.Proj1Block
public import proofs.«01_k».proof.Proof.Proj1Angles
public import Idealize.ShloMosaic.Lib.Claim

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Turn
open scoped BigOperators

variable (m : (ℓ : Loc nD τ sig) → Buf (Elt Ideal) ℓ) (c : Dev nD)

/-- A table of 64 lanes, twice side by side. -/
def twice (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128

theorem twice_apply (x : FVec Ideal S4096x64 .f32) (i : Fin 4096) (l : Fin 128) :
    twice x (ix2 i l) = x (ix2 i ⟨l.val % 64, Nat.mod_lt _ (by decide)⟩) := by
  pointwise [twice]

/-- The host's operations before the launch, in three stretches. -/
abbrev opsA : List (HloOp τ sig (Elt Ideal)) := List.flatten [hostOps0, hostOps0_1, hostOps0_2, hostOps0_3]
abbrev opsB : List (HloOp τ sig (Elt Ideal)) := List.flatten [hostOps0_4, hostOps0_5, hostOps0_6, hostOps0_7]
abbrev opsD : List (HloOp τ sig (Elt Ideal)) := List.flatten [hostOps0_8, hostOps0_9, hostOps0_10, hostOps0_11, hostOps0_12, hostOps0_13, hostOps0_14]

theorem split (b : Ref sig .tc) :
    V m c b = StableHlo.after opsD (StableHlo.after opsB (StableHlo.after opsA (fun b => m (c, b)))) b := by
  rw [← StableHlo.after_append, ← StableHlo.after_append]
  rfl

variable (W : Valuation τ sig (Elt Ideal))

theorem row_read : StableHlo.after opsA W main_v2 = (sitofp .f32 gridRow : FVec Ideal S4096 .f32) := by
  simp only [hostOps0, hostOps0_1, hostOps0_2, hostOps0_3, List.flatten_cons, List.flatten_nil, List.append_nil,
    List.cons_append, List.nil_append]
  entry_read
  rfl

theorem col_read : StableHlo.after opsA W main_v3 = gridCol := by
  simp only [hostOps0, hostOps0_1, hostOps0_2, hostOps0_3, List.flatten_cons, List.flatten_nil, List.append_nil,
    List.cons_append, List.nil_append]
  entry_read
  rfl

/-- The second stretch is cut at the operation that lays the four quarters of the angles side by side. -/
abbrev opsB₁ : List (HloOp τ sig (Elt Ideal)) := hostOps0_4.take 19
abbrev joinOp : HloOp τ sig (Elt Ideal) :=
  StableHlo.nary ![main_v15, main_v15, main_v20, main_v20] main_v21 (fun u => (concatenate S4096x64 1 [⟨S4096x16, (u 0 : (⟨S4096x16, .f32⟩ : BufTy).Contents (Elt Ideal))⟩, ⟨S4096x16, (u 1 : (⟨S4096x16, .f32⟩ : BufTy).Contents (Elt Ideal))⟩, ⟨S4096x16, (u 2 : (⟨S4096x16, .f32⟩ : BufTy).Contents (Elt Ideal))⟩, ⟨S4096x16, (u 3 : (⟨S4096x16, .f32⟩ : BufTy).Contents (Elt Ideal))⟩] concatenates_S4096x16_S4096x16_S4096x16_S4096x16_S4096x64_d1 : (⟨S4096x64, .f32⟩ : BufTy).Contents (Elt Ideal)))
abbrev opsB₂ : List (HloOp τ sig (Elt Ideal)) := List.flatten [hostOps0_4.drop 20, hostOps0_5, hostOps0_6, hostOps0_7]

theorem splitB (b : Ref sig .tc) : StableHlo.after opsB W b = StableHlo.after opsB₂ (joinOp.result (StableHlo.after opsB₁ W)) b := by
  rw [← StableHlo.after_cons, ← StableHlo.after_append]
  rfl

theorem quarterRow : StableHlo.after opsB₁ W main_v15 = quarter (W main_v2) := by
  simp only [List.drop, List.take, hostOps0_4, hostOps0_5, hostOps0_6, hostOps0_7, List.flatten_cons, List.flatten_nil, List.append_nil,
    List.cons_append, List.nil_append]
  entry_read
  rfl

theorem quarterCol : StableHlo.after opsB₁ W main_v20 = quarter (sitofp .f32 (W main_v3 : IVec S4096 32)) := by
  simp only [List.drop, List.take, hostOps0_4, hostOps0_5, hostOps0_6, hostOps0_7, List.flatten_cons, List.flatten_nil, List.append_nil,
    List.cons_append, List.nil_append]
  entry_read
  rfl

theorem joinRead : joinOp.result W main_v21 = concatenate S4096x64 1 [⟨S4096x16, (W main_v15 : FVec Ideal S4096x16 .f32)⟩,
    ⟨S4096x16, (W main_v15 : FVec Ideal S4096x16 .f32)⟩, ⟨S4096x16, (W main_v20 : FVec Ideal S4096x16 .f32)⟩,
    ⟨S4096x16, (W main_v20 : FVec Ideal S4096x16 .f32)⟩] concatenates_S4096x16_S4096x16_S4096x16_S4096x16_S4096x64_d1 :=
  StableHlo.nary_result _ _ _ _ _ W

theorem cosRest : StableHlo.after opsB₂ W main_v22 = (Host.cos (W main_v21 : FVec Ideal S4096x64 .f32) : FVec Ideal S4096x64 .f32) := by
  simp only [List.drop, List.take, hostOps0_4, hostOps0_5, hostOps0_6, hostOps0_7, List.flatten_cons, List.flatten_nil, List.append_nil,
    List.cons_append, List.nil_append]
  entry_read
  rfl

theorem sinRest : StableHlo.after opsB₂ W main_v23 = (Host.sin (W main_v21 : FVec Ideal S4096x64 .f32) : FVec Ideal S4096x64 .f32) := by
  simp only [List.drop, List.take, hostOps0_4, hostOps0_5, hostOps0_6, hostOps0_7, List.flatten_cons, List.flatten_nil, List.append_nil,
    List.cons_append, List.nil_append]
  entry_read
  rfl

theorem joinB (x y : IVec S4096 32) (hx : W main_v2 = (sitofp .f32 x : FVec Ideal S4096 .f32)) (hy : W main_v3 = y) :
    joinOp.result (StableHlo.after opsB₁ W) main_v21 = angleOf x y := by
  refine (joinRead _).trans ?_
  rw [quarterRow, quarterCol, hx, hy]
  rfl

theorem cosB (x y : IVec S4096 32) (hx : W main_v2 = (sitofp .f32 x : FVec Ideal S4096 .f32)) (hy : W main_v3 = y) :
    StableHlo.after opsB W main_v22 = Host.cos (angleOf x y) := by
  rw [splitB, cosRest, joinB W x y hx hy]

theorem sinB (x y : IVec S4096 32) (hx : W main_v2 = (sitofp .f32 x : FVec Ideal S4096 .f32)) (hy : W main_v3 = y) :
    StableHlo.after opsB W main_v23 = Host.sin (angleOf x y) := by
  rw [splitB, sinRest, joinB W x y hx hy]

theorem cosD : StableHlo.after opsD W main_v31 = twice (W main_v22) := by
  simp only [hostOps0_8, hostOps0_9, hostOps0_10, hostOps0_11, hostOps0_12, hostOps0_13, hostOps0_14, List.flatten_cons, List.flatten_nil, List.append_nil,
    List.cons_append, List.nil_append]
  entry_read
  rfl

/-- The mask of the even runs, from the runs' parities, spread over the tokens. -/
def mask (r : IVec S64 32) : IVec S4096x64 1 :=
  broadcastInDim S4096x64 ![1] bcast_S64_S4096x64_1 (cmpi .eq r (broadcastInDim S64 ![] bcast_S_S64 (constantI S_ 32 0#32)))

abbrev zeros : FVec Ideal S4096x64 .f32 := broadcastInDim S4096x64 ![] bcast_S_S4096x64 (constant S_ .f32 0x00000000#32)

theorem even_read (d : Fin 64) : cmpi .eq (StableHlo.after opsB W main_v26 : IVec S64 32) (broadcastInDim S64 ![] bcast_S_S64 (constantI S_ 32 0#32)) (ix1 d)
    = if d.val / 16 % 2 = 0 then 1#1 else 0#1 := by
  simp only [hostOps0_4, hostOps0_5, hostOps0_6, hostOps0_7, List.flatten_cons, List.flatten_nil, List.append_nil,
    List.cons_append, List.nil_append]
  entry_read
  revert d
  decide +kernel

theorem downD : StableHlo.after opsD W main_v36 = twice (select (mask (W main_v26)) (Host.negf (W main_v23 : FVec Ideal S4096x64 .f32)) zeros) := by
  simp only [hostOps0_8, hostOps0_9, hostOps0_10, hostOps0_11, hostOps0_12, hostOps0_13, hostOps0_14, List.flatten_cons, List.flatten_nil, List.append_nil,
    List.cons_append, List.nil_append]
  entry_read
  simp only [StableHlo.TRef.ofBuf, StableHlo.TRef.toBuf, cast_eq]
  rfl

theorem upD : StableHlo.after opsD W main_v40 = twice (select (mask (W main_v26)) zeros (W main_v23)) := by
  simp only [hostOps0_8, hostOps0_9, hostOps0_10, hostOps0_11, hostOps0_12, hostOps0_13, hostOps0_14, List.flatten_cons, List.flatten_nil, List.append_nil,
    List.cons_append, List.nil_append]
  entry_read
  simp only [StableHlo.TRef.ofBuf, StableHlo.TRef.toBuf, cast_eq]
  rfl

theorem scaleD : StableHlo.after opsD W main_v50 = (truncf .bf16 (mulf (shapeCast S1024x3072 (W main_arg3 : FVec Ideal S1x1024x3072 .f32) shapeCasts_S1x1024x3072_S1024x3072) (broadcastInDim S1024x3072 ![0, 1] bcast_S1x3072_S1024x3072_0_1
          (broadcastInDim S1x3072 ![1] bcast_S3072_S1x3072_1 (select
      (cmpi .slt (iotaInDim S3072 32 0) (broadcastInDim S3072 ![] bcast_S_S3072 (constantI S_ 32 1024#32)))
      (broadcastInDim S3072 ![] bcast_S_S3072 (constant S_ FTy.f32 0x3E000000#32))
      (broadcastInDim S3072 ![] bcast_S_S3072 (constant S_ FTy.f32 0x3F800000#32)))))) bitsLt_bf16_f32 : FVec Ideal S1024x3072 .bf16) := by
  simp only [hostOps0_8, hostOps0_9, hostOps0_10, hostOps0_11, hostOps0_12, hostOps0_13, hostOps0_14, List.flatten_cons, List.flatten_nil, List.append_nil,
    List.cons_append, List.nil_append]
  entry_read
  simp only [StableHlo.TRef.ofBuf, StableHlo.TRef.toBuf, cast_eq]
  rfl

theorem gainD : StableHlo.after opsD W main_v53 = shapeCast S1x1024 (shapeCast S1024 (extractStridedSlice S1x1024 ![1, 0] (W main_arg2 : FVec Ideal S2x1024 .f32)
    slices_S2x1024_S1x1024_1_0) shapeCasts_S1x1024_S1024) shapeCasts_S1024_S1x1024 := by
  simp only [hostOps0_8, hostOps0_9, hostOps0_10, hostOps0_11, hostOps0_12, hostOps0_13, hostOps0_14, List.flatten_cons, List.flatten_nil, List.append_nil,
    List.cons_append, List.nil_append]
  entry_read
  rfl

theorem arg2_read : StableHlo.after opsB (StableHlo.after opsA W) main_arg2 = W main_arg2 := by
  rw [← StableHlo.after_append]
  simp only [hostOps0, hostOps0_1, hostOps0_2, hostOps0_3, hostOps0_4, hostOps0_5, hostOps0_6, hostOps0_7, List.flatten_cons, List.flatten_nil, List.append_nil,
    List.cons_append, List.nil_append]
  entry_read
  rfl

theorem arg3_read : StableHlo.after opsB (StableHlo.after opsA W) main_arg3 = W main_arg3 := by
  rw [← StableHlo.after_append]
  simp only [hostOps0, hostOps0_1, hostOps0_2, hostOps0_3, hostOps0_4, hostOps0_5, hostOps0_6, hostOps0_7, List.flatten_cons, List.flatten_nil, List.append_nil,
    List.cons_append, List.nil_append]
  entry_read
  rfl

/-- The cosines' table. -/
theorem cos_at (i : Fin 4096) (l : Fin 128) :
    V m c main_v31 (ix2 i l) = Host.cos angle (ix2 i ⟨l.val % 64, Nat.mod_lt _ (by decide)⟩) := by
  rw [split, cosD, cosB _ gridRow gridCol (row_read _) (col_read _)]
  exact twice_apply _ i l

theorem mask_apply (r : IVec S64 32) (i : Fin 4096) (d : Fin 64) :
    mask r (ix2 i d) = cmpi .eq r (broadcastInDim S64 ![] bcast_S_S64 (constantI S_ 32 0#32)) (ix1 d) := by
  pointwise [mask]

theorem zeros_apply (i : Fin 4096) (d : Fin 64) : zeros (ix2 i d) = 0 := by
  pointwise [zeros]

/-- A choice by the mask of the even runs. -/
theorem choice {r : IVec S64 32} (hr : ∀ d : Fin 64, cmpi .eq r (broadcastInDim S64 ![] bcast_S_S64 (constantI S_ 32 0#32)) (ix1 d)
      = if d.val / 16 % 2 = 0 then 1#1 else 0#1) (x y : FVec Ideal S4096x64 .f32) (i : Fin 4096) (d : Fin 64) :
    select (mask r) x y (ix2 i d) = if d.val / 16 % 2 = 0 then x (ix2 i d) else y (ix2 i d) := by
  have h := (mask_apply r i d).trans (hr d)
  show (if mask r (ix2 i d) = 1#1 then x (ix2 i d) else y (ix2 i d)) = _
  rw [h]
  by_cases hd : d.val / 16 % 2 = 0
  · simp [hd]
  · simp [hd]

/-- The table of the columns above: −sin on the even runs. -/
theorem down_at (i : Fin 4096) (l : Fin 128) :
    V m c main_v36 (ix2 i l) = if l.val % 64 / 16 % 2 = 0 then - (Host.sin angle : FVec Ideal S4096x64 .f32) (ix2 i ⟨l.val % 64, Nat.mod_lt _ (by decide)⟩) else 0 := by
  rw [split, downD]
  refine (twice_apply _ i l).trans ((choice (even_read _) _ _ i _).trans ?_)
  rw [sinB _ gridRow gridCol (row_read _) (col_read _), zeros_apply]
  rfl

/-- The table of the columns below: sin on the odd runs. -/
theorem up_at (i : Fin 4096) (l : Fin 128) :
    V m c main_v40 (ix2 i l) = if l.val % 64 / 16 % 2 = 0 then 0 else (Host.sin angle : FVec Ideal S4096x64 .f32) (ix2 i ⟨l.val % 64, Nat.mod_lt _ (by decide)⟩) := by
  rw [split, upD]
  refine (twice_apply _ i l).trans ((choice (even_read _) _ _ i _).trans ?_)
  rw [sinB _ gridRow gridCol (row_read _) (col_read _), zeros_apply]
  rfl

theorem low_read (n : Fin 3072) : cmpi .slt (iotaInDim S3072 32 0) (broadcastInDim S3072 ![] bcast_S_S3072 (constantI S_ 32 1024#32)) (ix1 n)
    = if n.val < 1024 then 1#1 else 0#1 := by
  revert n
  decide +kernel

theorem scale_apply (n : Fin 3072) : (select
      (cmpi .slt (iotaInDim S3072 32 0) (broadcastInDim S3072 ![] bcast_S_S3072 (constantI S_ 32 1024#32)))
      (broadcastInDim S3072 ![] bcast_S_S3072 (constant S_ FTy.f32 0x3E000000#32))
      (broadcastInDim S3072 ![] bcast_S_S3072 (constant S_ FTy.f32 0x3F800000#32)) : FVec Ideal S3072 .f32) (ix1 n) = scaleOf n.val := by
  show (if cmpi .slt (iotaInDim S3072 32 0) (broadcastInDim S3072 ![] bcast_S_S3072 (constantI S_ 32 1024#32)) (ix1 n) = 1#1 then
    (broadcastInDim S3072 ![] bcast_S_S3072 (constant S_ FTy.f32 0x3E000000#32) : FVec Ideal S3072 .f32) (ix1 n)
      else (broadcastInDim S3072 ![] bcast_S_S3072 (constant S_ FTy.f32 0x3F800000#32) : FVec Ideal S3072 .f32) (ix1 n)) = _
  rw [low_read]
  unfold scaleOf
  by_cases hn : n.val < 1024
  · simp only [hn, if_true]
    pointwise
  · simp only [hn, if_false]
    pointwise
    rw [if_neg (by decide)]

/-- The weights times a column's scale, read at an index. -/
theorem scaled_apply (w : FVec Ideal S1x1024x3072 .f32) (s : FVec Ideal S3072 .f32) (k : Fin 1024) (n : Fin 3072) :
    (truncf .bf16 (mulf (shapeCast S1024x3072 w shapeCasts_S1x1024x3072_S1024x3072) (broadcastInDim S1024x3072 ![0, 1] bcast_S1x3072_S1024x3072_0_1
      (broadcastInDim S1x3072 ![1] bcast_S3072_S1x3072_1 s))) bitsLt_bf16_f32 : FVec Ideal S1024x3072 .bf16) (ix2 k n)
      = w (ix3 0 k n) * s (ix1 n) := by
  pointwise

/-- The weights, as numbers. -/
def weights (k : Fin 1024) (n : Fin 3072) : EReal := m ((c : Thread nD τ).loc main_arg3) (ix3 0 k n)

/-- The scaled weights. -/
theorem weight_at (k : Fin 1024) (n : Fin 3072) :
    V m c main_v50 (ix2 k n) = weights m c k n * scaleOf n.val := by
  rw [split, scaleD, arg3_read]
  exact (scaled_apply _ _ k n).trans (by rw [scale_apply]; rfl)

theorem gain_apply (g : FVec Ideal S2x1024 .f32) (k : Fin 1024) :
    shapeCast S1x1024 (shapeCast S1024 (extractStridedSlice S1x1024 ![1, 0] g slices_S2x1024_S1x1024_1_0) shapeCasts_S1x1024_S1024)
      shapeCasts_S1024_S1x1024 (ix2 0 k) = g (ix2 1 k) := by
  pointwise

/-- The norm's gain. -/
theorem gain_at (k : Fin 1024) : V m c main_v53 (ix2 0 k) = m ((c : Thread nD τ).loc main_arg2) (ix2 1 k) := by
  rw [split, gainD, arg2_read]
  exact gain_apply _ k

end Cert.Kernel4Ideal.Proj

end
-- ==== Proof.Proj1Array.lean ====
/-
  The last input projection's blocks as parts of its arrays, and the array its grid points leave together.
-/
module

public import proofs.«01_k».proof.Proof.Proj1Tables

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen Cert.Rows Cert.Turn
open scoped BigOperators

variable (m : (ℓ : Loc nD τ sig) → Buf (Elt Ideal) ℓ)

/-- Which block each window shows at a grid point (8 batches of 8 row tiles). -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![t.val % 8, 0] ∧ win0_5.index t = ![t.val % 8, 0]
    ∧ win0_6.index t = ![t.val % 8, 0] ∧ win0_7.index t = ![t.val / 8, t.val % 8, 0] :=
  (by decide +kernel : ∀ t : Fin grid0.N, _)

variable (c : Dev nD) (t : Fin cfg0.N)

/-- The batch a grid point works in, and the token its block's row `r` is. -/
abbrev batch : Fin 8 := ⟨t.val / 8, by have := t.isLt; have : cfg0.N = 64 := N_0; omega⟩
abbrev token (r : Fin 512) : Fin 4096 := ⟨t.val % 8 * 512 + r.val, by omega⟩

theorem blk0 (r : Fin 512) (k : Fin 1024) :
    iblk m c 0 t (ix3 0 r k : S1x512x1024.Idx) = m ((c : Thread nD τ).loc main_arg0) (ix3 (batch t) (token t r) k) := by
  have h : iblk m c 0 t (ix3 0 r k : S1x512x1024.Idx) = V m c main_arg0 (ix3 (batch t) (token t r) k) := by blk_ext [iblk, idx t]
  rw [h, V_main_arg0]

theorem blk1 (j : Fin 6) (k : Fin 1024) :
    iblk m c 1 t (ix3 0 j k : S1x6x1024.Idx) = m ((c : Thread nD τ).loc main_arg1) (ix3 ⟨t.val / 8, by have := t.isLt; have : cfg0.N = 64 := N_0; omega⟩ j k) := by
  have h : iblk m c 1 t (ix3 0 j k : S1x6x1024.Idx) = V m c main_arg1 (ix3 ⟨t.val / 8, by have := t.isLt; have : cfg0.N = 64 := N_0; omega⟩ j k) := by blk_ext [iblk, idx t]
  rw [h, V_main_arg1]

theorem blk2 (k : Fin 1024) :
    iblk m c 2 t (ix2 0 k : S1x1024.Idx) = m ((c : Thread nD τ).loc main_arg2) (ix2 1 k) := by
  have h : iblk m c 2 t (ix2 0 k : S1x1024.Idx) = V m c main_v53 (ix2 0 k) := by blk_ext [iblk, idx t]
  rw [h, gain_at]

theorem blk3 (k : Fin 1024) (n : Fin 3072) :
    iblk m c 3 t (ix2 k n : S1024x3072.Idx) = weights m c k n * scaleOf n.val := by
  have h : iblk m c 3 t (ix2 k n : S1024x3072.Idx) = V m c main_v50 (ix2 k n) := by blk_ext [iblk, idx t]
  rw [h, weight_at]

theorem blk4 (r : Fin 512) (l : Fin 128) :
    iblk m c 4 t (ix2 r l : S512x128.Idx) = (Host.cos angle : FVec Ideal S4096x64 .f32) (ix2 (token t r) ⟨l.val % 64, Nat.mod_lt _ (by decide)⟩) := by
  have h : iblk m c 4 t (ix2 r l : S512x128.Idx) = V m c main_v31 (ix2 (token t r) l) := by blk_ext [iblk, idx t]
  rw [h, cos_at]

theorem blk5 (r : Fin 512) (l : Fin 128) :
    iblk m c 5 t (ix2 r l : S512x128.Idx) = if l.val % 64 / 16 % 2 = 0 then - (Host.sin angle : FVec Ideal S4096x64 .f32) (ix2 (token t r) ⟨l.val % 64, Nat.mod_lt _ (by decide)⟩) else 0 := by
  have h : iblk m c 5 t (ix2 r l : S512x128.Idx) = V m c main_v36 (ix2 (token t r) l) := by blk_ext [iblk, idx t]
  rw [h, down_at]

theorem blk6 (r : Fin 512) (l : Fin 128) :
    iblk m c 6 t (ix2 r l : S512x128.Idx) = if l.val % 64 / 16 % 2 = 0 then 0 else (Host.sin angle : FVec Ideal S4096x64 .f32) (ix2 (token t r) ⟨l.val % 64, Nat.mod_lt _ (by decide)⟩) := by
  have h : iblk m c 6 t (ix2 r l : S512x128.Idx) = V m c main_v40 (ix2 (token t r) l) := by blk_ext [iblk, idx t]
  rw [h, up_at]

theorem emb_eq (r : Fin 512) (n : Fin 3072) :
    ((cfg0.win 7).blk t).view.emb (ix3 0 r n : S1x512x3072.Idx) = ix3 (batch t) (token t r) n := by
  blk_ext [iblk, idx t]

/-- The columns of a token's row, before the turn. -/
def columns (c : Dev nD) (b : Fin 8) (i : Fin 4096) : ℕ → EReal :=
  col (modulate (fun k => m ((c : Thread nD τ).loc main_arg0) (ix3 b i k)) (fun k => m ((c : Thread nD τ).loc main_arg2) (ix2 1 k))
    (fun k => m ((c : Thread nD τ).loc main_arg1) (ix3 ⟨b.val, by omega⟩ 0 k)) (fun k => m ((c : Thread nD τ).loc main_arg1) (ix3 ⟨b.val, by omega⟩ 1 k)))
    (weights m c)

/-- The whole result, one row per token, as a function of the argument arrays. -/
def result (c : Dev nD) (b : Fin 8) (i : Fin 4096) (n : Fin 3072) : EReal :=
  refAt (columns m c b i) (fun l => (Host.cos angle : FVec Ideal S4096x64 .f32) (ix2 i l)) (fun l => (Host.sin angle : FVec Ideal S4096x64 .f32) (ix2 i l)) n.val

/-- What a grid point leaves in the output's buffer is its block of `result`. -/
theorem point (r : Fin 512) (n : Fin 3072) :
    out0_7 (F := Ideal) (iblk m c 0 t) (iblk m c 1 t) (iblk m c 2 t) (iblk m c 3 t) (iblk m c 4 t) (iblk m c 5 t) (iblk m c 6 t)
      (ix3 0 r n) = result m c (batch t) (token t r) n := by
  refine (out_eq _ _ _ _ _ _ _ (ix3 0 r n : S1x512x3072.Idx)).trans ?_
  unfold result
  refine entry_eq _ _ _ _ _ _ _ ?_ (fun l => blk4 m c t r l) (fun l => blk5 m c t r l) (fun l => blk6 m c t r l) n.val n.isLt
  intro j hj
  have e (k : Fin 1024) : rows (iblk m c 0 t) (iblk m c 1 t) (iblk m c 2 t) (ix2 r k) = modulate (fun k => m ((c : Thread nD τ).loc main_arg0) (ix3 (batch t) (token t r) k))
      (fun k => m ((c : Thread nD τ).loc main_arg2) (ix2 1 k))
      (fun k => m ((c : Thread nD τ).loc main_arg1) (ix3 ⟨t.val / 8, by have := t.isLt; have : cfg0.N = 64 := N_0; omega⟩ 0 k)) (fun k => m ((c : Thread nD τ).loc main_arg1) (ix3 ⟨t.val / 8, by have := t.isLt; have : cfg0.N = 64 := N_0; omega⟩ 1 k)) k := by
    refine (rows_apply _ _ _ r k).trans ?_
    simp only [blk0 m c t, blk1 m c t, blk2 m c t]
  unfold columns
  rw [← col_scale _ _ j hj]
  exact congrArg₂ (fun a w => col a w j) (funext e) (funext fun k => funext fun n => blk3 m c t k n)

/-- After the run the output array is `result`, index by index. -/
theorem final : (dats m 0 c).arrAt 7 cfg0.N = fun i : S8x4096x3072.Idx => result m c (i 0) (i 1) (i 2) := by
  refine (dats m 0 c).arrAt_eq_of_covers 7 _ (by decide +kernel) fun t hf y => ?_
  blk_simp
  rw [after0_7]
  idx_vars y
  obtain rfl : y0 = 0 := Subsingleton.elim _ _
  refine (point m c t y1 y2).trans ?_
  have h := emb_eq t y1 y2
  exact (congrArg (fun i : S8x4096x3072.Idx => result m c (i 0) (i 1) (i 2)) h).symm

end Cert.Kernel4Ideal.Proj

end
-- ==== Proof.Proj1Reference.lean ====
/-
  The reference of the last input projection: its whole term, stage by stage, at one index.
-/
module

public import proofs.«01_k».proof.Proof.Proj1Angles
public import proofs.«01_k».proof.Proof.DenseStages
public import proofs.«01_k».proof.Proof.Gen.Reference4Ideal.Run

@[expose] public section

set_option maxRecDepth 16384
set_option maxHeartbeats 1000000

noncomputable section

open Idealize.ShloMosaic Idealize.ShloMosaic.TcCoe Idealize.SL.Sem

namespace Cert.Reference4Ideal.Proj

open Cert.Reference4Ideal Cert.Reference4Ideal.Gen Cert.Reference4Ideal.Value Cert.Rows Cert.Dense Cert.Turn
open scoped BigOperators

variable (m : (ℓ : Loc nD τ sig) → Buf (Elt Ideal) ℓ) (c : Dev nD)

/-- The modulated rows. -/
def fed : FVec Ideal S8x4096x1024 .f32 :=
  modulated (norm (m ((c : Thread nD τ).loc main_arg0)) (pick 1 slices_S2x1024_S1x1024_1_0 (m ((c : Thread nD τ).loc main_arg2))))
    (gate 0 slices_S9x6x1024_S8x1x1024_0_0_0 (m ((c : Thread nD τ).loc main_arg1)))
    (gate 1 slices_S9x6x1024_S8x1x1024_0_1_0 (m ((c : Thread nD τ).loc main_arg1)))

/-- All 3072 columns of the rows' product with the weights. -/
def wide (a : FVec Ideal S8x4096x1024 .f32) (w : FVec Ideal S1x1024x3072 .f32) : FVec Ideal S8x4096x3072 .f32 :=
  Host.dotGeneral dot_S8x4096x1024_S1024x3072_S8x4096x3072_2_0_01_1_n_n none a
    (shapeCast S1024x3072 w shapeCasts_S1x1024x3072_S1024x3072)

/-- 1024 of the columns, from `o` on. -/
def third (o : ℕ) (h : S8x4096x3072.Slices ![0, 0, o] S8x4096x1024) (p : FVec Ideal S8x4096x3072 .f32) : FVec Ideal S8x4096x1024 .f32 :=
  extractStridedSlice S8x4096x1024 ![0, 0, o] p h

/-- A token's angle function, spread over batches and heads. -/
def overHeads (x : FVec Ideal S4096x64 .f32) : FVec Ideal S8x4096x16x64 .f32 :=
  broadcastInDim S8x4096x16x64 ![0, 1, 2, 3] bcast_S1x4096x1x64_S8x4096x16x64_0_1_2_3
    (broadcastInDim S1x4096x1x64 ![1, 2, 3] bcast_S4096x1x64_S1x4096x1x64_1_2_3
      (broadcastInDim S4096x1x64 ![0, 2] bcast_S4096x64_S4096x1x64_0_2 x))

/-- Every run of 32 lanes with its halves exchanged, the first of them negated. -/
def rotated (q : FVec Ideal S8x4096x16x64 .f32) : FVec Ideal S8x4096x16x64 .f32 :=
  shapeCast _ (concatenate S8x4096x16x2x2x16 4
    [⟨S8x4096x16x2x1x16, broadcastInDim S8x4096x16x2x1x16 ![0, 1, 2, 3, 5] bcast_S8x4096x16x2x16_S8x4096x16x2x1x16_0_1_2_3_5
      (Host.negf (shapeCast S8x4096x16x2x16 (extractStridedSlice S8x4096x16x2x1x16 ![0, 0, 0, 0, 1, 0]
        (shapeCast S8x4096x16x2x2x16 q shapeCasts_S8x4096x16x64_S8x4096x16x2x2x16) slices_S8x4096x16x2x2x16_S8x4096x16x2x1x16_0_0_0_0_1_0)
        shapeCasts_S8x4096x16x2x1x16_S8x4096x16x2x16))⟩,
     ⟨S8x4096x16x2x1x16, broadcastInDim S8x4096x16x2x1x16 ![0, 1, 2, 3, 5] bcast_S8x4096x16x2x16_S8x4096x16x2x1x16_0_1_2_3_5
      (shapeCast S8x4096x16x2x16 (extractStridedSlice S8x4096x16x2x1x16 ![0, 0, 0, 0, 0, 0]
        (shapeCast S8x4096x16x2x2x16 q shapeCasts_S8x4096x16x64_S8x4096x16x2x2x16) slices_S8x4096x16x2x2x16_S8x4096x16x2x1x16_0_0_0_0_0_0)
        shapeCasts_S8x4096x16x2x1x16_S8x4096x16x2x16)⟩]
    concatenates_S8x4096x16x2x1x16_S8x4096x16x2x1x16_S8x4096x16x2x2x16_d4) shapeCasts_S8x4096x16x2x2x16_S8x4096x16x64

/-- The columns by head and lane, and back. -/
def byHead (q : FVec Ideal S8x4096x1024 .f32) : FVec Ideal S8x4096x16x64 .f32 :=
  shapeCast S8x4096x16x64 q shapeCasts_S8x4096x1024_S8x4096x16x64
def flat (x : FVec Ideal S8x4096x16x64 .f32) : FVec Ideal S8x4096x1024 .f32 :=
  shapeCast S8x4096x1024 x shapeCasts_S8x4096x16x64_S8x4096x1024

/-- The heads turned by given cosines and sines. -/
def turn (x : FVec Ideal S8x4096x16x64 .f32) (p q : FVec Ideal S4096x64 .f32) : FVec Ideal S8x4096x16x64 .f32 :=
  addf (mulf x (overHeads p)) (mulf (rotated x) (overHeads q))

/-- The heads turned by the angles. -/
def spun (q : FVec Ideal S8x4096x1024 .f32) (p s : FVec Ideal S4096x64 .f32) : FVec Ideal S8x4096x1024 .f32 :=
  flat (turn (byHead q) p s)

/-- The three parts side by side: the turned queries scaled, the turned keys, the values. -/
def joined (p : FVec Ideal S8x4096x3072 .f32) (co si : FVec Ideal S4096x64 .f32) : FVec Ideal S8x4096x3072 .bf16 :=
  truncf .bf16 (concatenate S8x4096x3072 2
    [⟨S8x4096x1024, mulf (spun (third 0 slices_S8x4096x3072_S8x4096x1024_0_0_0 p) co si)
        (broadcastInDim S8x4096x1024 ![] bcast_S_S8x4096x1024 (constant S_ .f32 0x3E000000#32))⟩,
     ⟨S8x4096x1024, spun (third 1024 slices_S8x4096x3072_S8x4096x1024_0_0_1024 p) co si⟩,
     ⟨S8x4096x1024, third 2048 slices_S8x4096x3072_S8x4096x1024_0_0_2048 p⟩]
    concatenates_S8x4096x1024_S8x4096x1024_S8x4096x1024_S8x4096x3072_d2) bitsLt_bf16_f32

end Cert.Reference4Ideal.Proj

end
-- ==== Proof.Proj1Stages.lean ====
/-
  The reference of the last input projection: its whole term, stage by stage, read at an index.
-/
module

public import proofs.«01_k».proof.Proof.Proj1Reference

@[expose] public section

set_option maxRecDepth 16384
set_option maxHeartbeats 1000000

noncomputable section

open Idealize.ShloMosaic Idealize.ShloMosaic.TcCoe Idealize.SL.Sem

namespace Cert.Reference4Ideal.Proj

open Cert.Reference4Ideal Cert.Reference4Ideal.Gen Cert.Reference4Ideal.Value Cert.Rows Cert.Dense Cert.Turn
open scoped BigOperators

variable (m : (ℓ : Loc nD τ sig) → Buf (Elt Ideal) ℓ) (c : Dev nD)

theorem stages : res_main_v113 (F := Ideal) m c = joined (wide (fed m c) (m ((c : Thread nD τ).loc main_arg3))) (Host.cos angle) (Host.sin angle) := by
  unfold res_main_v113 joined spun flat turn byHead rotated overHeads third wide fed angle angleOf quarter gridRow gridCol freq modulated Dense.norm gate pick
  with_reducible rfl

end Cert.Reference4Ideal.Proj

end
-- ==== Proof.Proj1ReferenceValue.lean ====
/-
  The reference of the last input projection: its whole term, stage by stage, read at an index.
-/
module

public import proofs.«01_k».proof.Proof.Proj1Reference

@[expose] public section

set_option maxRecDepth 16384
set_option maxHeartbeats 1000000

noncomputable section

open Idealize.ShloMosaic Idealize.ShloMosaic.TcCoe Idealize.SL.Sem

namespace Cert.Reference4Ideal.Proj

open Cert.Reference4Ideal Cert.Reference4Ideal.Gen Cert.Reference4Ideal.Value Cert.Rows Cert.Dense Cert.Turn
open scoped BigOperators

theorem wide_apply (a : FVec Ideal S8x4096x1024 .f32) (w : FVec Ideal S1x1024x3072 .f32) (b : Fin 8) (i : Fin 4096) (n : Fin 3072) :
    wide a w (ix3 b i n) = ∑ k : Fin 1024, a (ix3 b i k) * w (ix3 0 k n) := by
  pointwise [wide]

theorem third_apply (o : ℕ) (h : S8x4096x3072.Slices ![0, 0, o] S8x4096x1024) (ho : o + 1024 ≤ 3072) (p : FVec Ideal S8x4096x3072 .f32)
    (b : Fin 8) (i : Fin 4096) (n : Fin 1024) : third o h p (ix3 b i n) = p (ix3 b i ⟨o + n.val, by omega⟩) := by
  pointwise [third]

theorem overHeads_apply (x : FVec Ideal S4096x64 .f32) (b : Fin 8) (i : Fin 4096) (h : Fin 16) (d : Fin 64) :
    overHeads x (ix4 b i h d) = x (ix2 i d) := by
  pointwise [overHeads]

theorem rotated_low (q : FVec Ideal S8x4096x16x64 .f32) (b : Fin 8) (i : Fin 4096) (h : Fin 16) (d : Fin 64) (hd : d.val / 16 % 2 = 0) :
    rotated q (ix4 b i h d) = - q (ix4 b i h ⟨d.val + 16, by omega⟩) := by
  pointwise [rotated]
  rw [dif_pos (by omega)]
  exact congrArg (fun e => - q (ix4 b i h e)) (Fin.ext (by show d.val / 32 * 32 + 16 + d.val % 16 = d.val + 16; omega))

theorem rotated_high (q : FVec Ideal S8x4096x16x64 .f32) (b : Fin 8) (i : Fin 4096) (h : Fin 16) (d : Fin 64) (hd : ¬ d.val / 16 % 2 = 0) :
    rotated q (ix4 b i h d) = q (ix4 b i h ⟨d.val - 16, by omega⟩) := by
  pointwise [rotated]
  rw [dif_neg (by omega)]
  exact congrArg (fun e => q (ix4 b i h e)) (Fin.ext (by show d.val / 32 * 32 + d.val % 16 = d.val - 16; omega))

theorem byHead_apply (q : FVec Ideal S8x4096x1024 .f32) (b : Fin 8) (i : Fin 4096) (h : Fin 16) (d : Fin 64) :
    byHead q (ix4 b i h d) = q (ix3 b i ⟨h.val * 64 + d.val, by omega⟩) := by
  pointwise [byHead]

theorem flat_apply (x : FVec Ideal S8x4096x16x64 .f32) (b : Fin 8) (i : Fin 4096) (n : Fin 1024) :
    flat x (ix3 b i n) = x (ix4 b i ⟨n.val / 64, by omega⟩ ⟨n.val % 64, Nat.mod_lt _ (by decide)⟩) := by
  pointwise [flat]

theorem twoTerms {S : Shape} (x y u v : FVec Ideal S .f32) (j : S.Idx) : addf (mulf x u) (mulf y v) j = x j * u j + y j * v j := rfl

theorem turn_apply (x : FVec Ideal S8x4096x16x64 .f32) (p q : FVec Ideal S4096x64 .f32) (b : Fin 8) (i : Fin 4096) (h : Fin 16) (d : Fin 64) :
    turn x p q (ix4 b i h d) = x (ix4 b i h d) * p (ix2 i d)
      + (if d.val / 16 % 2 = 0 then - x (ix4 b i h ⟨(d.val + 16) % 64, Nat.mod_lt _ (by decide)⟩) else x (ix4 b i h ⟨d.val - 16, by omega⟩)) * q (ix2 i d) := by
  unfold turn
  rw [twoTerms, overHeads_apply, overHeads_apply]
  by_cases hd : d.val / 16 % 2 = 0
  · rw [rotated_low x b i h d hd, if_pos hd]
    have e : (⟨d.val + 16, by omega⟩ : Fin 64) = ⟨(d.val + 16) % 64, Nat.mod_lt _ (by decide)⟩ :=
      Fin.ext (by show d.val + 16 = (d.val + 16) % 64; omega)
    rw [e]
  · rw [rotated_high x b i h d hd, if_neg hd]

theorem spun_apply (q : FVec Ideal S8x4096x1024 .f32) (p s : FVec Ideal S4096x64 .f32) (b : Fin 8) (i : Fin 4096) (n : Fin 1024) :
    spun q p s (ix3 b i n) = q (ix3 b i n) * p (ix2 i ⟨n.val % 64, Nat.mod_lt _ (by decide)⟩)
      + (if n.val / 16 % 2 = 0 then - q (ix3 b i ⟨(n.val + 16) % 1024, Nat.mod_lt _ (by decide)⟩) else q (ix3 b i ⟨n.val - 16, by omega⟩))
        * s (ix2 i ⟨n.val % 64, Nat.mod_lt _ (by decide)⟩) := by
  unfold spun
  rw [flat_apply, turn_apply, byHead_apply, byHead_apply, byHead_apply]
  have e₀ : (⟨n.val / 64 * 64 + n.val % 64, by omega⟩ : Fin 1024) = n := Fin.ext (by show n.val / 64 * 64 + n.val % 64 = n.val; omega)
  have hc : (n.val % 64 / 16 % 2 = 0) = (n.val / 16 % 2 = 0) := propext (by omega)
  simp only [e₀, hc]
  by_cases hn : n.val / 16 % 2 = 0
  · rw [if_pos hn, if_pos hn]
    have e : (⟨n.val / 64 * 64 + (n.val % 64 + 16) % 64, by omega⟩ : Fin 1024) = ⟨(n.val + 16) % 1024, Nat.mod_lt _ (by decide)⟩ :=
      Fin.ext (by show n.val / 64 * 64 + (n.val % 64 + 16) % 64 = (n.val + 16) % 1024; omega)
    rw [e]
  · rw [if_neg hn, if_neg hn]
    have e : (⟨n.val / 64 * 64 + (n.val % 64 - 16), by omega⟩ : Fin 1024) = ⟨n.val - 16, by omega⟩ :=
      Fin.ext (by show n.val / 64 * 64 + (n.val % 64 - 16) = n.val - 16; omega)
    rw [e]

variable (p : FVec Ideal S8x4096x3072 .f32) (co si : FVec Ideal S4096x64 .f32) (b : Fin 8) (i : Fin 4096) (n : Fin 3072)

theorem joined_apply : joined p co si (ix3 b i n) =
    if h : n.val < 1024 then
      spun (third 0 slices_S8x4096x3072_S8x4096x1024_0_0_0 p) co si (ix3 b i ⟨n.val, h⟩) * Ideal.ofBits .f32 0x3E000000#32
    else if h : n.val - 1024 < 1024 then
      spun (third 1024 slices_S8x4096x3072_S8x4096x1024_0_0_1024 p) co si (ix3 b i ⟨n.val - 1024, h⟩)
    else p (ix3 b i n) := by
  pointwise [joined]
  refine dite_congr rfl (fun _ => rfl) fun h => dite_congr rfl (fun _ => rfl) fun h' => ?_
  rw [third_apply 2048 _ (by decide)]
  exact congrArg (fun e => p (ix3 b i e)) (Fin.ext (by show 2048 + (n.val - 1024 - 1024) = n.val; omega))

end Cert.Reference4Ideal.Proj

end
-- ==== Proof.Proj1Result.lean ====
/-
  The reference of the last input projection at one index: the turned and scaled columns of its modulated row.
-/
module

public import proofs.«01_k».proof.Proof.Proj1Stages
public import proofs.«01_k».proof.Proof.Proj1ReferenceValue
public import proofs.«01_k».proof.Proof.Proj1Turn

@[expose] public section

set_option maxRecDepth 16384

noncomputable section

open Idealize.ShloMosaic Idealize.ShloMosaic.TcCoe Idealize.SL.Sem

namespace Cert.Reference4Ideal.Proj

open Cert.Reference4Ideal Cert.Reference4Ideal.Gen Cert.Reference4Ideal.Value Cert.Rows Cert.Dense Cert.Turn
open Cert.Kernel4Ideal.Proj (col scaleOf turnedAt refAt)
open scoped BigOperators

variable (m : (ℓ : Loc nD τ sig) → Buf (Elt Ideal) ℓ) (c : Dev nD)

/-- What the projection is fed, one row at a time. -/
theorem fed_apply (b : Fin 8) (i : Fin 4096) (k : Fin 1024) :
    fed m c (ix3 b i k) = modulate (fun k => m ((c : Thread nD τ).loc main_arg0) (ix3 b i k)) (fun k => m ((c : Thread nD τ).loc main_arg2) (ix2 1 k))
      (fun k => m ((c : Thread nD τ).loc main_arg1) (ix3 ⟨b.val, by omega⟩ 0 k)) (fun k => m ((c : Thread nD τ).loc main_arg1) (ix3 ⟨b.val, by omega⟩ 1 k)) k := by
  refine (modulated_apply _ _ _ b i k).trans ?_
  rw [norm_apply, gate_apply 0 _ (by decide), gate_apply 1 _ (by decide)]
  simp only [pick_apply 1 _ (by decide)]
  rfl

/-- A product's column, as `col` of the row. -/
theorem wide_col (a : FVec Ideal S8x4096x1024 .f32) (w : FVec Ideal S1x1024x3072 .f32) (b : Fin 8) (i : Fin 4096) (n : Fin 3072) :
    wide a w (ix3 b i n) = col (fun k => a (ix3 b i k)) (fun k n => w (ix3 0 k n)) n.val := by
  refine (wide_apply a w b i n).trans ?_
  unfold col
  simp only [Nat.mod_eq_of_lt n.isLt]

variable (p : FVec Ideal S8x4096x3072 .f32) (P : ℕ → EReal) (b : Fin 8) (i : Fin 4096) (hP : ∀ n : Fin 3072, p (ix3 b i n) = P n.val)
  (co si : FVec Ideal S4096x64 .f32)

include hP in
/-- A turned third of the columns: 1024 of them, from `o` on, where `o` is a multiple of 64. -/
theorem spun_third (o : ℕ) (h : S8x4096x3072.Slices ![0, 0, o] S8x4096x1024) (ho : o + 1024 ≤ 3072) (h64 : o % 64 = 0) (n : Fin 1024) :
    spun (third o h p) co si (ix3 b i n) = turnedAt P (fun l => co (ix2 i l)) (fun l => si (ix2 i l)) (o + n.val) := by
  rw [spun_apply, third_apply o h ho, third_apply o h ho, hP, hP]
  unfold turnedAt
  have e1 : (o + n.val) % 64 = n.val % 64 := by omega
  simp only [e1]
  by_cases hd : n.val / 16 % 2 = 0
  · have e2 : (o + n.val) / 16 % 2 = 0 := by omega
    have e3 : o + (n.val + 16) % 1024 = o + n.val + 16 := by omega
    simp only [hd, e2, e3, if_true]
  · have e2 : ¬ (o + n.val) / 16 % 2 = 0 := by omega
    have e3 : o + (n.val - 16) = o + n.val - 16 := by omega
    simp only [hd, e2, if_false]
    rw [third_apply o h ho, hP]
    simp only [e3]

include hP in
/-- The three parts side by side. -/
theorem joined_eq (n : Fin 3072) :
    joined p co si (ix3 b i n) = refAt P (fun l => co (ix2 i l)) (fun l => si (ix2 i l)) n.val := by
  refine (joined_apply p co si b i n).trans ?_
  unfold refAt scaleOf
  by_cases h1 : n.val < 1024
  · rw [dif_pos h1, if_pos (by omega), if_pos h1, spun_third p P b i hP co si 0 _ (by decide) (by decide)]
    simp only [Nat.zero_add]
  · rw [dif_neg h1]
    by_cases h2 : n.val - 1024 < 1024
    · rw [dif_pos h2, if_pos (by omega), if_neg h1, mul_one, spun_third p P b i hP co si 1024 _ (by decide) (by decide)]
      exact congrArg _ (by show 1024 + (n.val - 1024) = n.val; omega)
    · rw [dif_neg h2, if_neg (by omega), hP]

/-- The reference's result at one index. -/
theorem reference_eq (b : Fin 8) (i : Fin 4096) (n : Fin 3072) :
    res_main_v113 (F := Ideal) m c (ix3 b i n) = refAt (col (modulate (fun k => m ((c : Thread nD τ).loc main_arg0) (ix3 b i k)) (fun k => m ((c : Thread nD τ).loc main_arg2) (ix2 1 k))
      (fun k => m ((c : Thread nD τ).loc main_arg1) (ix3 ⟨b.val, by omega⟩ 0 k)) (fun k => m ((c : Thread nD τ).loc main_arg1) (ix3 ⟨b.val, by omega⟩ 1 k)))
      (fun k n => m ((c : Thread nD τ).loc main_arg3) (ix3 0 k n)))
      (fun l => (Host.cos angle : FVec Ideal S4096x64 .f32) (ix2 i l)) (fun l => (Host.sin angle : FVec Ideal S4096x64 .f32) (ix2 i l)) n.val := by
  rw [stages]
  refine joined_eq _ _ b i (fun j => (wide_col _ _ b i j).trans ?_) _ _ n
  exact congrArg (fun a => col a _ j.val) (funext fun k => fed_apply m c b i k)

end Cert.Reference4Ideal.Proj

end
-- ==== Proof.Proj1.lean ====
/-
  The last input projection: kernel and reference compute the same array on the extended reals.
-/
module

public import proofs.«01_k».proof.Defs
public import proofs.«01_k».proof.Proof.Proj1Array
public import proofs.«01_k».proof.Proof.Proj1Result

@[expose] public section

set_option maxRecDepth 16384

noncomputable section

open Idealize.ShloMosaic Idealize.ShloMosaic.TcCoe Idealize.SL.Sem

namespace Cert.Proj1

/-- Kernel and reference, run from agreeing arguments, leave the same array. -/
theorem algebraic : Cert.algebraic_Kernel4Ideal_Reference4Ideal := by
  pair_intro
  · run_from Cert.Kernel4Ideal.Gen.run_main m g
    · exact Cert.Kernel4Ideal.Gen.V_main_arg2 m c
    · exact Cert.Kernel4Ideal.Gen.V_main_arg3 m c
  · run_from Cert.Reference4Ideal.Value.run m' g'
    refine Eq.trans ?_ (Cert.Kernel4Ideal.Proj.final m c).symm
    funext i
    idx_vars i
    refine (Cert.Reference4Ideal.Proj.reference_eq m' c i0 i1 i2).trans ?_
    obtain ⟨h0, h1, h2, h3⟩ := hagree c
    simp only [h0, h1, h2, h3]
    rfl

end Cert.Proj1

end
-- ==== Proof.lean ====
/-
  The claims of this directory, put together: the frames (Proof/Frames.lean), the kernels' ideal readings
  (no rewrites, so nothing to show), and the equations between kernels and references.
-/
module

public import proofs.«01_k».proof.Defs
public import proofs.«01_k».proof.Proof.Frames
public import proofs.«01_k».proof.Proof.Diff
public import proofs.«01_k».proof.Proof.Mlp0
public import proofs.«01_k».proof.Proof.Mlp1
public import proofs.«01_k».proof.Proof.Proj1

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Finite.facts,
    Frames.kernel, Frames.kernelIdeal, fun m g _ => Frames.kernelIdeal m g trivial,
    Frames.referenceIdeal, fun m g _ => Frames.referenceIdeal m g trivial,
    Frames.kernel2, Frames.kernel2Ideal, Frames.reference2Ideal,
    Frames.kernel3, Frames.kernel3Ideal, Frames.reference3Ideal,
    Frames.kernel4, Frames.kernel4Ideal, Frames.reference4Ideal,
    trivial, Diff.algebraic (hf := Finite.facts), trivial, Mlp1.algebraic, trivial, Mlp0.algebraic, trivial, Proj1.algebraic⟩

end Cert.Proof

end
